-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_range [hPre_gamma_in_range : Cert.Pre_gamma_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_range [hPre_gamma_in_range : Cert.Pre_gamma_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_gamma_in_range [hKernelIdeal : Cert.KernelIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_gamma_in_range [hReferenceIdeal : Cert.ReferenceIdeal.Facts] [hPre_gamma_in_range : Cert.Pre_gamma_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_d" .f32 0x37E38E39#32 ((1 / 36864 : ℝ) : EReal)

def algebraic_KernelIdeal_ReferenceIdeal_pre_gamma_in_range [hKernelIdeal : Cert.KernelIdeal.Facts] [hReferenceIdeal : Cert.ReferenceIdeal.Facts] [hPre_gamma_in_range : Cert.Pre_gamma_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_gamma_in_range : Cert.Pre_gamma_in_range.Facts),
    quiescent_Kernel (hKernel := hKernel)
    ∧ quiescent_KernelIdeal (hKernelIdeal := hKernelIdeal)
    ∧ quiescent_KernelIdeal_pre_gamma_in_range (hKernelIdeal := hKernelIdeal) (hPre_gamma_in_range := hPre_gamma_in_range)
    ∧ quiescent_ReferenceIdeal (hReferenceIdeal := hReferenceIdeal)
    ∧ quiescent_ReferenceIdeal_pre_gamma_in_range (hReferenceIdeal := hReferenceIdeal) (hPre_gamma_in_range := hPre_gamma_in_range)
    ∧ preserves_Kernel_KernelIdeal
    ∧ algebraic_KernelIdeal_ReferenceIdeal_pre_gamma_in_range (hKernelIdeal := hKernelIdeal) (hReferenceIdeal := hReferenceIdeal) (hPre_gamma_in_range := hPre_gamma_in_range)
-- ==== Pre_gamma_in_range.lean ====
abbrev S3x1024x36864 : Shape := ⟨3, ![3, 1024, 36864]⟩
abbrev S36864 : Shape := ⟨1, ![36864]⟩
abbrev S_ : Shape := ⟨0, ![]⟩

class Facts : Prop where
  bitsLt_bf16_f32 : FTy.bits .bf16 < FTy.bits .f32
  bcast_S_S36864 : S_.BroadcastsInDim S36864 (![] : Fin 0 → Fin S36864.rank)
  reducesTo_S36864_S_d0 : S36864.ReducesTo [0] S_
  h_S_ : 0 < S_.numel

variable [Facts]

def fn {F : FTy → Type} [FloatOps F] (main_arg0 : FVec F S3x1024x36864 .bf16) (main_arg1 : FVec F S3x1024x36864 .bf16) (main_arg2 : FVec F S36864 .bf16) : IVec S_ 1 :=
  let main_v0 : FVec F S36864 .f32 := (extf .f32 · bitsLt_bf16_f32) main_arg2
  let main_v1 : FVec F S36864 .f32 := Host.absf main_v0
  let main_cst : FVec F S_ .f32 := constant S_ .f32 0x7F000000#32
  let main_v2 : FVec F S36864 .f32 := broadcastInDim S36864 ![] bcast_S_S36864 main_cst
  let main_v3 : IVec S36864 1 := cmpf .olt main_v1 main_v2
  let main_c : IVec S_ 1 := constantI S_ 1 1#1
  let main_v4 : IVec S_ 1 := (fun x v => Host.reduce IntOp.andi x v reducesTo_S36864_S_d0 h_S_) main_v3 main_c
  main_v4
-- ==== Kernel.lean ====
abbrev S3x1024x36864 : Shape := ⟨3, ![3, 1024, 36864]⟩
abbrev S36864 : Shape := ⟨1, ![36864]⟩
abbrev S3072x36864 : Shape := ⟨2, ![3072, 36864]⟩
abbrev S1x36864 : Shape := ⟨2, ![1, 36864]⟩
abbrev S24x128 : Shape := ⟨2, ![24, 128]⟩
abbrev S32x36864 : Shape := ⟨2, ![32, 36864]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S128 : Shape := ⟨1, ![128]⟩

abbrev nBuf : Space → Nat
  | .hbm => 9
  | .vmem => 11
  | .smem => 0
  | _ => 0

abbrev bufTy : (tb : Table) → Fin (tcTables nBuf tb) → BufTy
  | .hbm, ⟨0, _⟩ => ⟨S3x1024x36864, .bf16⟩
  | .hbm, ⟨1, _⟩ => ⟨S3x1024x36864, .bf16⟩
  | .hbm, ⟨2, _⟩ => ⟨S36864, .bf16⟩
  | .hbm, ⟨3, _⟩ => ⟨S3072x36864, .bf16⟩
  | .hbm, ⟨4, _⟩ => ⟨S3072x36864, .bf16⟩
  | .hbm, ⟨5, _⟩ => ⟨S1x36864, .bf16⟩
  | .hbm, ⟨6, _⟩ => ⟨S3072x36864, .bf16⟩
  | .hbm, ⟨7, _⟩ => ⟨S3072x36864, .fp8e4m3⟩
  | .hbm, ⟨8, _⟩ => ⟨S24x128, .f32⟩
  | .local _ .vmem, ⟨0, _⟩ => ⟨S32x36864, .bf16⟩
  | .local _ .vmem, ⟨1, _⟩ => ⟨S32x36864, .bf16⟩
  | .local _ .vmem, ⟨2, _⟩ => ⟨S32x36864, .bf16⟩
  | .local _ .vmem, ⟨3, _⟩ => ⟨S32x36864, .bf16⟩
  | .local _ .vmem, ⟨4, _⟩ => ⟨S1x36864, .bf16⟩
  | .local _ .vmem, ⟨5, _⟩ => ⟨S32x36864, .bf16⟩
  | .local _ .vmem, ⟨6, _⟩ => ⟨S32x36864, .bf16⟩
  | .local _ .vmem, ⟨7, _⟩ => ⟨S32x36864, .fp8e4m3⟩
  | .local _ .vmem, ⟨8, _⟩ => ⟨S32x36864, .fp8e4m3⟩
  | .local _ .vmem, ⟨9, _⟩ => ⟨S24x128, .f32⟩
  | .local _ .vmem, ⟨10, _⟩ => ⟨S1x36864, .f32⟩
  | _, _ => ⟨S3x1024x36864, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![96], ![false]⟩

@[reducible] def k0_t1_loop : Scf.Loop 32 :=
  let c0_i32_1 : BitVec 32 := 0#32
  let c18_i32 : BitVec 32 := 18#32
  let v4 : BitVec 32 := Scalar.addi c0_i32_1 c18_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg8 : BitVec 32 := Scf.iv c0_i32_1 c1_i32 k0_t1
  let c2048_i32 : BitVec 32 := 2048#32
  let v158 : BitVec 32 := Scalar.muli arg8 c2048_i32
  v158
def k0_off1 (k0_t1 : Fin k0_t1_loop.trips) (c0_i32_56 : BitVec 32) : Fin 2 → Nat :=
  let c0_58 : Index := 0#32
  let c0_i32_1 : BitVec 32 := 0#32
  let c1_i32 : BitVec 32 := 1#32
  let arg8 : BitVec 32 := Scf.iv c0_i32_1 c1_i32 k0_t1
  let c2048_i32 : BitVec 32 := 2048#32
  let v158 : BitVec 32 := Scalar.muli arg8 c2048_i32
  let v159 : BitVec 32 := v158
  let v160 : BitVec 32 := Scalar.addi v159 c0_i32_56
  let v176 : Index := Scalar.indexCast v160
  ![0, v176.toNat]
@[reducible] def k0_t2_loop : Scf.Loop 32 :=
  let c0_i32_6 : BitVec 32 := 0#32
  let c18_i32_7 : BitVec 32 := 18#32
  let v15 : BitVec 32 := Scalar.addi c0_i32_6 c18_i32_7
  let c1_i32_8 : BitVec 32 := 1#32
  ⟨c0_i32_6, v15, c1_i32_8⟩
def k0_mult2 (k0_t2 : Fin k0_t2_loop.trips) : BitVec 32 :=
  let c0_i32_6 : BitVec 32 := 0#32
  let c1_i32_8 : BitVec 32 := 1#32
  let arg8 : BitVec 32 := Scf.iv c0_i32_6 c1_i32_8 k0_t2
  let c2048_i32 : BitVec 32 := 2048#32
  let v158 : BitVec 32 := Scalar.muli arg8 c2048_i32
  v158
def k0_off2 (k0_t2 : Fin k0_t2_loop.trips) (c0_i32_56 : BitVec 32) : Fin 2 → Nat :=
  let c0_58 : Index := 0#32
  let c0_i32_6 : BitVec 32 := 0#32
  let c1_i32_8 : BitVec 32 := 1#32
  let arg8 : BitVec 32 := Scf.iv c0_i32_6 c1_i32_8 k0_t2
  let c2048_i32 : BitVec 32 := 2048#32
  let v158 : BitVec 32 := Scalar.muli arg8 c2048_i32
  let v159 : BitVec 32 := v158
  let v160 : BitVec 32 := Scalar.addi v159 c0_i32_56
  let v176 : Index := Scalar.indexCast v160
  ![0, v176.toNat]
def k0_off3 (k0_t2 : Fin k0_t2_loop.trips) (c0_i32_56 : BitVec 32) : Fin 2 → Nat :=
  let c0_59 : Index := 0#32
  let c0_i32_6 : BitVec 32 := 0#32
  let c1_i32_8 : BitVec 32 := 1#32
  let arg8 : BitVec 32 := Scf.iv c0_i32_6 c1_i32_8 k0_t2
  let c2048_i32 : BitVec 32 := 2048#32
  let v158 : BitVec 32 := Scalar.muli arg8 c2048_i32
  let v159 : BitVec 32 := v158
  let v160 : BitVec 32 := Scalar.addi v159 c0_i32_56
  let v181 : Index := Scalar.indexCast v160
  ![0, v181.toNat]
@[reducible] def k0_t3_loop : Scf.Loop 32 :=
  let c0_i32_35 : BitVec 32 := 0#32
  let c18_i32_36 : BitVec 32 := 18#32
  let v114 : BitVec 32 := Scalar.addi c0_i32_35 c18_i32_36
  let c1_i32_37 : BitVec 32 := 1#32
  ⟨c0_i32_35, v114, c1_i32_37⟩
def k0_mult3 (k0_t3 : Fin k0_t3_loop.trips) : BitVec 32 :=
  let c0_i32_35 : BitVec 32 := 0#32
  let c1_i32_37 : BitVec 32 := 1#32
  let arg8 : BitVec 32 := Scf.iv c0_i32_35 c1_i32_37 k0_t3
  let c2048_i32 : BitVec 32 := 2048#32
  let v158 : BitVec 32 := Scalar.muli arg8 c2048_i32
  v158
def k0_off4 (k0_t3 : Fin k0_t3_loop.trips) (c0_i32_56 : BitVec 32) : Fin 2 → Nat :=
  let c0_58 : Index := 0#32
  let c0_i32_35 : BitVec 32 := 0#32
  let c1_i32_37 : BitVec 32 := 1#32
  let arg8 : BitVec 32 := Scf.iv c0_i32_35 c1_i32_37 k0_t3
  let c2048_i32 : BitVec 32 := 2048#32
  let v158 : BitVec 32 := Scalar.muli arg8 c2048_i32
  let v159 : BitVec 32 := v158
  let v160 : BitVec 32 := Scalar.addi v159 c0_i32_56
  let v176 : Index := Scalar.indexCast v160
  ![0, v176.toNat]
def k0_off5 (k0_t3 : Fin k0_t3_loop.trips) (c0_i32_56 : BitVec 32) : Fin 2 → Nat :=
  let c0_59 : Index := 0#32
  let c0_i32_35 : BitVec 32 := 0#32
  let c1_i32_37 : BitVec 32 := 1#32
  let arg8 : BitVec 32 := Scf.iv c0_i32_35 c1_i32_37 k0_t3
  let c2048_i32 : BitVec 32 := 2048#32
  let v158 : BitVec 32 := Scalar.muli arg8 c2048_i32
  let v159 : BitVec 32 := v158
  let v160 : BitVec 32 := Scalar.addi v159 c0_i32_56
  let v181 : Index := Scalar.indexCast v160
  ![0, v181.toNat]
def k0_off6 (i : grid0.Coords) : Fin 2 → Nat :=
  let arg0 : BitVec 32 := BitVec.ofNat 32 (i 0).val
  let c0_i32_40 : BitVec 32 := 0#32
  let v116 : BitVec 1 := Scalar.cmpi .sgt arg0 c0_i32_40
  let v117 : BitVec 32 := Scalar.extui v116
  let c0_i32_41 : BitVec 32 := 0#32
  let v118 : BitVec 1 := Scalar.cmpi .slt arg0 c0_i32_41
  let v119 : BitVec 32 := Scalar.extui v118
  let v120 : BitVec 32 := Scalar.subi v117 v119
  let c4_i32_39 : BitVec 32 := 4#32
  let c0_i32_42 : BitVec 32 := 0#32
  let v121 : BitVec 1 := Scalar.cmpi .sgt c4_i32_39 c0_i32_42
  let v122 : BitVec 32 := Scalar.extui v121
  let c0_i32_43 : BitVec 32 := 0#32
  let v123 : BitVec 1 := Scalar.cmpi .slt c4_i32_39 c0_i32_43
  let v124 : BitVec 32 := Scalar.extui v123
  let v125 : BitVec 32 := Scalar.subi v122 v124
  let v126 : BitVec 1 := Scalar.cmpi .ne v120 v125
  let v127 : BitVec 32 := Scalar.remsi arg0 c4_i32_39
  let c0_i32_44 : BitVec 32 := 0#32
  let v128 : BitVec 1 := Scalar.cmpi .ne v127 c0_i32_44
  let v129 : BitVec 1 := Scalar.andi v126 v128
  let v115 : BitVec 32 := Scalar.divsi arg0 c4_i32_39
  let c1_i32_45 : BitVec 32 := 1#32
  let v130 : BitVec 32 := Scalar.subi v115 c1_i32_45
  let v131 : BitVec 32 := Scalar.select v129 v130 v115
  let v150 : Index := Scalar.indexCast v131
  let c0 : Index := 0#32
  ![v150.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x36864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x36864 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x36864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x36864 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x36864 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "inv_d" => some ((1 / 36864 : ℝ) : EReal)
  | _ => none
-- ==== ReferenceIdeal.lean ====
abbrev S3x1024x36864 : Shape := ⟨3, ![3, 1024, 36864]⟩
abbrev S36864 : Shape := ⟨1, ![36864]⟩
abbrev S_ : Shape := ⟨0, ![]⟩
abbrev S3x1024 : Shape := ⟨2, ![3, 1024]⟩
abbrev S3x1024x1 : Shape := ⟨3, ![3, 1024, 1]⟩
abbrev S1x1x36864 : Shape := ⟨3, ![1, 1, 36864]⟩
abbrev S3072x36864 : Shape := ⟨2, ![3072, 36864]⟩
abbrev S24x128 : Shape := ⟨2, ![24, 128]⟩

abbrev nBuf : Space → Nat
  | .hbm => 73
  | .vmem => 2
  | .smem => 0
  | _ => 0

abbrev bufTy : (tb : Table) → Fin (tcTables nBuf tb) → BufTy
  | .hbm, ⟨0, _⟩ => ⟨S3x1024x36864, .bf16⟩
  | .hbm, ⟨1, _⟩ => ⟨S3x1024x36864, .bf16⟩
  | .hbm, ⟨2, _⟩ => ⟨S36864, .bf16⟩
  | .hbm, ⟨3, _⟩ => ⟨S3x1024x36864, .f32⟩
  | .hbm, ⟨4, _⟩ => ⟨S3x1024x36864, .f32⟩
  | .hbm, ⟨5, _⟩ => ⟨S3x1024x36864, .f32⟩
  | .hbm, ⟨6, _⟩ => ⟨S3x1024x36864, .bf16⟩
  | .hbm, ⟨7, _⟩ => ⟨S3x1024x36864, .f32⟩
  | .hbm, ⟨8, _⟩ => ⟨S3x1024x36864, .f32⟩
  | .hbm, ⟨9, _⟩ => ⟨S_, .f32⟩
  | .hbm, ⟨10, _⟩ => ⟨S3x1024, .f32⟩
  | .hbm, ⟨11, _⟩ => ⟨S3x1024x1, .f32⟩
  | .hbm, ⟨12, _⟩ => ⟨S_, .f32⟩
  | .hbm, ⟨13, _⟩ => ⟨S3x1024x1, .f32⟩
  | .hbm, ⟨14, _⟩ => ⟨S3x1024x1, .f32⟩
  | .hbm, ⟨15, _⟩ => ⟨S_, .f32⟩
  | .hbm, ⟨16, _⟩ => ⟨S3x1024x1, .f32⟩
  | .hbm, ⟨17, _⟩ => ⟨S3x1024x1, .f32⟩
  | .hbm, ⟨18, _⟩ => ⟨S3x1024x1, .f32⟩
  | .hbm, ⟨19, _⟩ => ⟨S3x1024x36864, .f32⟩
  | .hbm, ⟨20, _⟩ => ⟨S3x1024x36864, .f32⟩
  | .hbm, ⟨21, _⟩ => ⟨S36864, .f32⟩
  | .hbm, ⟨22, _⟩ => ⟨S1x1x36864, .f32⟩
  | .hbm, ⟨23, _⟩ => ⟨S3x1024x36864, .f32⟩
  | .hbm, ⟨24, _⟩ => ⟨S3x1024x36864, .f32⟩
  | .hbm, ⟨25, _⟩ => ⟨S3x1024x36864, .f32⟩
  | .hbm, ⟨26, _⟩ => ⟨S_, .f32⟩
  | .hbm, ⟨27, _⟩ => ⟨S3x1024, .f32⟩
  | .hbm, ⟨28, _⟩ => ⟨S3x1024x1, .f32⟩
  | .hbm, ⟨29, _⟩ => ⟨S_, .f32⟩
  | .hbm, ⟨30, _⟩ => ⟨S3x1024x1, .f32⟩
  | .hbm, ⟨31, _⟩ => ⟨S3x1024x1, .f32⟩
  | .hbm, ⟨32, _⟩ => ⟨S3x1024x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S3x1024x1, .f32⟩
  | .hbm, ⟨37, _⟩ => ⟨S3x1024x1, .f32⟩
  | .hbm, ⟨38, _⟩ => ⟨S3x1024x1, .f32⟩
  | .hbm, ⟨39, _⟩ => ⟨S_, .f32⟩
  | .hbm, ⟨40, _⟩ => ⟨S3x1024x1, .f32⟩
  | .hbm, ⟨41, _⟩ => ⟨S3x1024x1, .f32⟩
  | .hbm, ⟨42, _⟩ => ⟨S_, .f32⟩
  | .hbm, ⟨43, _⟩ => ⟨S3x1024x1, .f32⟩
  | .hbm, ⟨44, _⟩ => ⟨S3x1024x1, .i1⟩
  | .hbm, ⟨45, _⟩ => ⟨S_, .f32⟩
  | .hbm, ⟨46, _⟩ => ⟨S3x1024x1, .f32⟩
  | .hbm, ⟨47, _⟩ => ⟨S3x1024x1, .f32⟩
  | .hbm, ⟨48, _⟩ => ⟨S_, .f32⟩
  | .hbm, ⟨49, _⟩ => ⟨S_, .f32⟩
  | .hbm, ⟨50, _⟩ => ⟨S3x1024x1, .f32⟩
  | .hbm, ⟨51, _⟩ => ⟨S3x1024x1, .f32⟩
  | .hbm, ⟨52, _⟩ => ⟨S_, .f32⟩
  | .hbm, ⟨53, _⟩ => ⟨S3x1024x1, .f32⟩
  | .hbm, ⟨54, _⟩ => ⟨S3x1024x1, .f32⟩
  | .hbm, ⟨55, _⟩ => ⟨S3x1024x1, .f32⟩
  | .hbm, ⟨56, _⟩ => ⟨S_, .f32⟩
  | .hbm, ⟨57, _⟩ => ⟨S3x1024x1, .f32⟩
  | .hbm, ⟨58, _⟩ => ⟨S3x1024x1, .f32⟩
  | .hbm, ⟨59, _⟩ => ⟨S3x1024x36864, .f32⟩
  | .hbm, ⟨60, _⟩ => ⟨S3x1024x36864, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S3x1024x36864, .f32⟩
  | .hbm, ⟨65, _⟩ => ⟨S3x1024x36864, .f32⟩
  | .hbm, ⟨66, _⟩ => ⟨S_, .f32⟩
  | .hbm, ⟨67, _⟩ => ⟨S3x1024x36864, .f32⟩
  | .hbm, ⟨68, _⟩ => ⟨S3x1024x36864, .f32⟩
  | .hbm, ⟨69, _⟩ => ⟨S3072x36864, .bf16⟩
  | .hbm, ⟨70, _⟩ => ⟨S24x128, .f32⟩
  | .hbm, ⟨71, _⟩ => ⟨S3072x36864, .f32⟩
  | .hbm, ⟨72, _⟩ => ⟨S3072x36864, .fp8e4m3⟩
  | .local _ .vmem, ⟨0, _⟩ => ⟨S3072x36864, .f32⟩
  | .local _ .vmem, ⟨1, _⟩ => ⟨S3072x36864, .fp8e4m3⟩
  | _, _ => ⟨S3x1024x36864, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_cst_6 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_cst_8 : Ref sig .tc := ⟨.hbm, 48, rfl⟩
abbrev main_call0_v0 : Ref sig .tc := ⟨.hbm, 49, rfl⟩
abbrev main_call0_v1 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_10 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_11 : Ref sig .tc := ⟨.hbm, 61, rfl⟩
abbrev main_cst_12 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S3072x36864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x36864 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Kernel.Runs.lean ====
/- What the runs of one grid step share: the host operations before the launch, the blocks the windows read,
   the condition of the body's one branch and the staging buffers. The layout follows the generated frame modules,
   which stop at `k0_off6` (the row `step // 4` of the scales, a floor division); its closed form is proved first here. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Where the scales of one grid step are stored: row `step / 4`, from the first lane on. -/
theorem k0_off6_eq : ∀ i : grid0.Coords, k0_off6 i = ![((i 0).val / 4), 0] := by decide +kernel
instance closedOff_k0_off6 (i : grid0.Coords) : ClosedOff (k0_off6 i) := ⟨![((i 0).val / 4), 0], k0_off6_eq i⟩

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## The kernel body on any staging memrefs: a subtype the run finds -/

/-- Each window's current staging memref at point `t`, spelled as the pipeline passes it (`bodyAt0`), and its wholeness. -/
abbrev ms0_0 (t : Fin cfg0.N) : Memref sig .tc .vmem S32x36864 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x36864 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x36864 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x36864 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x36864 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1x36864 .f32 := Memref.whole cc0_scratch0
/-- The scratch `arg7` the kernel carries between points, as a view: what it holds is stated through it. -/
abbrev VS0_0 : View sig .tc .vmem S1x36864 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Gen

end
-- ==== Proof.Kernel.RunA.lean ====
/- The first grid step: the whole body runs, and the pieces it leaves in each output's buffer. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_A (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) :
    { LS0 : List (View.Piece (Elt F) S1x36864 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0)) -∗ K ⟨⟩))
          ⊢ wp frame (wpE (defs₀ (F := F)) Variants.none c none) E (cc0_add_rmsnorm_fp8 i arg1 harg1 arg2 harg2 arg3 harg3 arg4 harg4 arg5 harg5 arg6 harg6 arg7 harg7) K } := by
  refine ⟨?_, fun E K => ?run⟩
  case run =>
    simp only [cc0_add_rmsnorm_fp8_eq_skeleton]; unfold cc0_add_rmsnorm_fp8_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; iexact HS0

end Cert.Kernel.Gen

end
-- ==== Proof.Kernel.RunB.lean ====
/- Every later grid step: the whole body runs over the scales and the copy of gamma that the step before left. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 95: 95 of 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (3, 4, 5) at anything, handed back at some contents nothing names. -/
noncomputable def kernelRun0_B (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xs0 : Vec F S1x36864 .f32) :
    { LS0 : List (View.Piece (Elt F) S1x36864 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0) -∗ K ⟨⟩))
          ⊢ wp frame (wpE (defs₀ (F := F)) Variants.none c none) E (cc0_add_rmsnorm_fp8 i arg1 harg1 arg2 harg2 arg3 harg3 arg4 harg4 arg5 harg5 arg6 harg6 arg7 harg7) K } := by
  refine ⟨[], fun E K => ?run⟩
  case run =>
    simp only [cc0_add_rmsnorm_fp8_eq_skeleton]; unfold cc0_add_rmsnorm_fp8_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    iexists _; isplitr; · ipureintro; exact harg7.read_unread _
    iexact HS0

end Cert.Kernel.Gen

end
-- ==== Proof.Kernel.Frame.lean ====
/- The whole run: what the outputs hold after each grid step, the obligation of the pipeline for the body, and
   the frame (the run ends, the arguments are as they were, every semaphore is at zero). -/
module

public import proofs.«01_k».proof.Proof.Kernel.RunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: 1 piece of `S1x36864` tiling it (Lib/Ring.lean `Piece.tiledL`). -/
theorem scover0_A_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) (y : S1x36864.Idx) :
    ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S1x36864.size (by sl_kernel_rfl) y

/-- What case A leaves in scratch `arg7`: its pieces read back over junk. -/
def sout0_A_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) : Vec F S1x36864 .f32 :=
  VS0_0.read (Elt F) (VS0_0.writes (Elt F) VS0_0.junk (kernelRun0_A c i arg1 harg1 arg2 harg2 arg3 harg3 arg4 harg4 arg5 harg5 arg6 harg6 arg7 harg7 hc0 x0 x1 x2).1)

/-- Case B stores nothing into scratch `arg7`: it holds what the point before left. -/
def sout0_B_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xs0 : Vec F S1x36864 .f32) : Vec F S1x36864 .f32 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x36864 .f32
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩)
  | n + 1, hn =>
    if h0 : (n + 1) % 96 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn))

/-- `outsAt0` at a point of case A: that case's contents. -/
theorem outsAt0_A (c : Dev nD) (t : Fin cfg0.N) (h0 : t.val % 96 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 96 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn))) ∗ (∃ r, prngReg c r))

/-- Before the first step the scratch is only owned. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)))) ∗ (∃ r, prngReg c r)) := by
  cases n with
  | zero => exact absurd rfl hz
  | succ n => rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- After a step the residual's buffer holds its block. -/
theorem after0_1 (c : Dev nD) (t : Fin cfg0.N) : (dats m 0 c).after 1 t = iblk m c 1 t := by dsimp only [dats]
/-- After a step gamma's buffer holds its block. -/
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a step the residual's buffer holds its block. -/
theorem before0_1 (c : Dev nD) (t : Fin cfg0.N) (d) : (dats m 0 c).before 1 t d = iblk m c 1 t :=
  before0_1_of m (dats m 0 c) (A_eq m c 1) (after0_1 m c) t d
/-- Before a step gamma's buffer holds its block. -/
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases hz : t.val = 0
    · rw [PhiS_castSucc m c t, PhiS_zero m c _ _ hz, PhiA0_eq]
      rw [outsAt0_A m c t h0]
      unfold sout0_A_0
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t)).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, H3, H4, H5, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; have hN : t.val < 96 := lt_of_lt_of_eq t.isLt (show cfg0.N = 96 from N_0); omega
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      unfold sout0_B_0
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) _).2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, H3, H4, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Gen

end
-- ==== Proof.Math.Exponent.lean ====
/- The exponent of the scale. The kernel searches the exponent field of a float by comparisons with powers of two and
   builds the scale and its inverse from the field; the reference takes the floor of the logarithm to base 2. Both are
   the same power of two for every number from 0 up to 2^126. -/
module

public import Idealize.ShloMosaic.Lib.IdealHost
public import Idealize.ShloMosaic.Lib.Pointwise

@[expose] public section

noncomputable section

namespace Cert.Norm

open Idealize.ShloMosaic

/-! ## The constants of both programs as numbers -/

/-- The word of 1. -/
theorem c_one : Ideal.ofBits .f32 0x3F800000#32 = ((1 : ℝ) : EReal) := by
  simp [Ideal.ofBits, Ideal.ieee, -EReal.coe_mul]; norm_num
/-- The word of 2. -/
theorem c_two : Ideal.ofBits .f32 0x40000000#32 = ((2 : ℝ) : EReal) := by
  simp [Ideal.ofBits, Ideal.ieee, -EReal.coe_mul]; norm_num
/-- The word of -126. -/
theorem c_m126 : Ideal.ofBits .f32 0xC2FC0000#32 = ((-126 : ℝ) : EReal) := by
  simp [Ideal.ofBits, Ideal.ieee, -EReal.coe_mul, -EReal.coe_neg]; norm_num
/-- The word of 36864. -/
theorem c_dim : Ideal.ofBits .f32 0x47100000#32 = ((36864 : ℝ) : EReal) := by
  simp [Ideal.ofBits, Ideal.ieee, -EReal.coe_mul]; norm_num
/-- The word of minus infinity. -/
theorem c_negInf : Ideal.ofBits .f32 0xFF800000#32 = ⊥ := by simp [Ideal.ofBits, Ideal.ieee]
/-- The guard under the root. -/
def epsR : ℝ := 8796093 * (2 : ℝ) ^ (-43 : ℤ)
/-- The word of the guard under the root. -/
theorem c_eps : Ideal.ofBits .f32 0x358637BD#32 = (epsR : EReal) := by
  simp [Ideal.ofBits, Ideal.ieee, -EReal.coe_mul, epsR]
/-- The float nearest 1/448. -/
def invMaxR : ℝ := 9586981 * (2 : ℝ) ^ (-32 : ℤ)
/-- The word of the float nearest 1/448. -/
theorem c_invMax : Ideal.ofBits .f32 0x3B124925#32 = (invMaxR : EReal) := by
  simp [Ideal.ofBits, Ideal.ieee, -EReal.coe_mul, invMaxR]
/-- The word of 2^127. -/
theorem c_2p127 : Ideal.ofBits .f32 0x7F000000#32 = (((2 : ℝ) ^ (127 : ℕ) : ℝ) : EReal) := by
  simp [Ideal.ofBits, Ideal.ieee, -EReal.coe_mul, -EReal.coe_pow]; norm_num

/-! ## What an exponent field denotes -/

/-- The number a float denotes whose exponent field is `n` and whose other bits are zero. -/
def V (n : ℕ) : ℝ := if n = 0 then 0 else (2 : ℝ) ^ ((n : ℤ) - 127)

/-- A field above 0 denotes its power of two. -/
theorem V_pos {n : ℕ} (h : 0 < n) : V n = (2 : ℝ) ^ ((n : ℤ) - 127) := by unfold V; rw [if_neg (by omega)]

/-- A larger field denotes a number at least as large. -/
theorem V_mono {a b : ℕ} (h : a ≤ b) : V a ≤ V b := by
  unfold V; split_ifs
  · exact le_refl _
  · positivity
  · omega
  · exact zpow_le_zpow_right₀ (by norm_num) (by omega)

/-- A word holding only an exponent field denotes `V` of the field, below the field of the infinities. -/
theorem ofBits_field (n : ℕ) (h : n ≤ 254) : Ideal.ofBits .f32 (BitVec.ofNat 32 n <<< 23) = (V n : EReal) := by
  have e0 : (BitVec.ofNat 32 n <<< 23).toNat = n * 2 ^ 23 := by
    rw [BitVec.toNat_shiftLeft, BitVec.toNat_ofNat, Nat.shiftLeft_eq]; omega
  have e1 : (BitVec.ofNat 32 n <<< 23).extractLsb' 31 1 = 0#1 := by
    apply BitVec.eq_of_toNat_eq; rw [BitVec.extractLsb'_toNat, e0, Nat.shiftRight_eq_div_pow]; show _ = 0; omega
  have e2 : ((BitVec.ofNat 32 n <<< 23).extractLsb' 23 8).toNat = n := by
    rw [BitVec.extractLsb'_toNat, e0, Nat.shiftRight_eq_div_pow]; omega
  have e3 : ((BitVec.ofNat 32 n <<< 23).extractLsb' 0 23).toNat = 0 := by
    rw [BitVec.extractLsb'_toNat, e0, Nat.shiftRight_eq_div_pow]; omega
  show Ideal.ieee 8 23 _ = _
  unfold Ideal.ieee V
  dsimp only
  rw [show 8 + 23 = 31 from rfl, e1, e2, e3]
  rw [if_neg (by omega)]
  by_cases hn : n = 0
  · simp [hn]
  · rw [if_neg hn, if_neg hn]
    refine congrArg ((↑) : ℝ → EReal) ?_
    have e : ((n : ℤ) - (2 ^ (8 - 1) - 1) - ((23 : ℕ) : ℤ)) = ((n : ℤ) - 127) + (-23) := by norm_num; ring
    rw [e, zpow_add₀ (by norm_num)]
    simp
    field_simp
    norm_num

/-- The field of all ones denotes infinity. -/
theorem ofBits_field_top : Ideal.ofBits .f32 (BitVec.ofNat 32 255 <<< 23) = ⊤ := by
  simp [Ideal.ofBits, Ideal.ieee]

/-! ## The kernel's search -/

/-- The float whose exponent field is the word `n`. -/
def fieldOf (n : BitVec 32) : EReal := Ideal.ofBits .f32 (IntOp.shli .vector n 23#32)

/-- Fields up to 254 denote `V` of the field. -/
theorem fieldOf_ofNat (n : ℕ) (h : n ≤ 254) : fieldOf (BitVec.ofNat 32 n) = (V n : EReal) := by
  unfold fieldOf IntOp.shli; rw [if_pos (by decide)]; exact ofBits_field n h

/-- The last field denotes infinity. -/
theorem fieldOf_255 : fieldOf (BitVec.ofNat 32 255) = ⊤ := by
  unfold fieldOf IntOp.shli; rw [if_pos (by decide)]; exact ofBits_field_top

/-- One step of the search: the bit `w` is added to the field when the float of the larger field is still at most `z`. -/
def step (z : EReal) (n w : BitVec 32) : BitVec 32 :=
  Scalar.select (Ideal.cmp .oge z (fieldOf (n + w))) (n + w) n

/-- One step halves the interval of fields the number lies in. -/
theorem step_spec (z : ℝ) (hz : z < (2 : ℝ) ^ (126 : ℤ)) (n w : ℕ) (hw : n + w ≤ 255)
    (h0 : V n ≤ z) (h1 : z < V (n + 2 * w)) :
    ∃ n' : ℕ, step z (BitVec.ofNat 32 n) (BitVec.ofNat 32 w) = BitVec.ofNat 32 n' ∧ (n' = n ∨ n' = n + w)
      ∧ V n' ≤ z ∧ z < V (n' + w) := by
  unfold step
  rw [← BitVec.ofNat_add]
  have key : (fieldOf (BitVec.ofNat 32 (n + w)) ≤ (z : EReal)) ↔ V (n + w) ≤ z := by
    by_cases h : n + w = 255
    · rw [h, fieldOf_255]
      constructor
      · intro h'; exact absurd h' (by simp)
      · intro h'; exfalso
        have : (2 : ℝ) ^ (126 : ℤ) ≤ V 255 := by
          rw [V_pos (by norm_num)]; exact zpow_le_zpow_right₀ (by norm_num) (by norm_num)
        linarith
    · rw [fieldOf_ofNat _ (by omega), EReal.coe_le_coe_iff]
  show ∃ n' : ℕ, Scalar.select (BitVec.ofBool (decide (fieldOf (BitVec.ofNat 32 (n + w)) ≤ (z : EReal)))) _ _ = _ ∧ _
  by_cases h : V (n + w) ≤ z
  · refine ⟨n + w, ?_, .inr rfl, h, by rwa [add_assoc, ← two_mul]⟩
    rw [decide_eq_true (key.mpr h)]; rfl
  · refine ⟨n, ?_, .inl rfl, h0, not_le.mp h⟩
    rw [decide_eq_false (fun h' => h (key.mp h'))]; rfl

/-- The first six bits of the search. -/
def search6 (z : EReal) : BitVec 32 :=
  step z (step z (step z (step z (step z (step z 0#32 128#32) 64#32) 32#32) 16#32) 8#32) 4#32

/-- The whole search. -/
def search (z : EReal) : BitVec 32 := step z (step z (search6 z) 2#32) 1#32

/-- The search finds the largest field whose float is at most `z`. -/
theorem search_spec (z : ℝ) (hz0 : 0 ≤ z) (hz : z < (2 : ℝ) ^ (126 : ℤ)) :
    ∃ n : ℕ, search z = BitVec.ofNat 32 n ∧ n ≤ 252 ∧ V n ≤ z ∧ z < V (n + 1) := by
  have t0 : V 0 ≤ z := by simpa [V] using hz0
  have t1 : z < V (0 + 2 * 128) := by
    refine lt_of_lt_of_le hz ?_
    rw [V_pos (by norm_num)]; exact zpow_le_zpow_right₀ (by norm_num) (by norm_num)
  obtain ⟨n1, e1, d1, l1, u1⟩ := step_spec z hz 0 128 (by norm_num) t0 t1
  obtain ⟨n2, e2, d2, l2, u2⟩ := step_spec z hz n1 64 (by omega) l1 u1
  obtain ⟨n3, e3, d3, l3, u3⟩ := step_spec z hz n2 32 (by omega) l2 u2
  obtain ⟨n4, e4, d4, l4, u4⟩ := step_spec z hz n3 16 (by omega) l3 u3
  obtain ⟨n5, e5, d5, l5, u5⟩ := step_spec z hz n4 8 (by omega) l4 u4
  obtain ⟨n6, e6, d6, l6, u6⟩ := step_spec z hz n5 4 (by omega) l5 u5
  obtain ⟨n7, e7, d7, l7, u7⟩ := step_spec z hz n6 2 (by omega) l6 u6
  obtain ⟨n8, e8, d8, l8, u8⟩ := step_spec z hz n7 1 (by omega) l7 u7
  refine ⟨n8, ?_, ?_, l8, u8⟩
  · unfold search search6
    rw [e1, e2, e3, e4, e5, e6, e7, e8]
  · by_contra h
    have h' : V 253 ≤ V n8 := V_mono (by omega)
    rw [V_pos (by norm_num : 0 < 253)] at h'
    have : ((253 : ℕ) : ℤ) - 127 = 126 := by norm_num
    rw [this] at h'
    linarith

/-- The kernel's exponent word: 0 for a zero, the field less 126 otherwise. -/
def kexp (z : EReal) : BitVec 32 :=
  Scalar.select (Ideal.cmp .oeq z (Ideal.ofBits .f32 0x00000000#32)) 0#32 (search z - 126#32)
/-- The kernel's scale. -/
def kscale (z : EReal) : EReal := fieldOf (kexp z + 127#32)
/-- The kernel's inverse scale. -/
def kinv (z : EReal) : EReal := fieldOf (0#32 - kexp z + 127#32)

/-! ## The reference's exponent -/

/-- The reference's exponent, of the row maximum `a` and of its multiple `z`. -/
def refExp (a z : EReal) : EReal :=
  Scalar.select (Ideal.cmp .oeq a (Ideal.ofBits .f32 0x00000000#32)) (Ideal.ofBits .f32 0x00000000#32)
    (max (Ideal.liftRound Int.floor (Ideal.div (Ideal.log z) (Ideal.log (Ideal.ofBits .f32 0x40000000#32)))
      + Ideal.ofBits .f32 0x3F800000#32) (Ideal.ofBits .f32 0xC2FC0000#32))
/-- The reference's scale. -/
def rscale (a z : EReal) : EReal := Ideal.pow (Ideal.ofBits .f32 0x40000000#32) (refExp a z)
/-- The reference's inverse scale. -/
def rinv (a z : EReal) : EReal := Ideal.pow (Ideal.ofBits .f32 0x40000000#32) (-refExp a z)

/-- Between two powers of two the rounded logarithm is the exponent, and below the smallest it is clamped. -/
theorem refExp_pos (z : ℝ) (hz : 0 < z) (n : ℕ) (hl : V n ≤ z) (hu : z < V (n + 1)) :
    max (((⌊Real.log z * (1 / Real.log 2)⌋ : ℤ) : ℝ) + 1) (-126) = (((n : ℤ) - 126 : ℤ) : ℝ) := by
  have hl2 : 0 < Real.log 2 := Real.log_pos (by norm_num)
  generalize hv : Real.log z * (1 / Real.log 2) = v
  have e : Real.log z = v * Real.log 2 := by rw [← hv]; field_simp
  rw [V_pos (by omega)] at hu
  have u : v < (((n + 1 : ℕ) : ℤ) - 127 : ℤ) := by
    have := Real.log_lt_log hz hu
    rw [Real.log_zpow, e] at this
    exact lt_of_mul_lt_mul_right this hl2.le
  by_cases hn : n = 0
  · have : ⌊v⌋ < -126 := by rw [Int.floor_lt]; refine lt_of_lt_of_le u ?_; subst hn; norm_num
    have h2 : ((⌊v⌋ : ℤ) : ℝ) ≤ -127 := by exact_mod_cast (by omega : ⌊v⌋ ≤ -127)
    rw [max_eq_right (by linarith)]; subst hn; norm_num
  · rw [V_pos (by omega)] at hl
    have l : (((n : ℤ) - 127 : ℤ) : ℝ) ≤ v := by
      have := Real.log_le_log (by positivity) hl
      rw [Real.log_zpow, e] at this
      exact le_of_mul_le_mul_right this hl2
    have : ⌊v⌋ = (n : ℤ) - 127 := by
      rw [Int.floor_eq_iff]; refine ⟨l, lt_of_lt_of_le u ?_⟩; push_cast; linarith
    rw [this, max_eq_left]
    · push_cast; ring
    · have : (1 : ℝ) ≤ n := by exact_mod_cast (by omega : 1 ≤ n)
      push_cast; linarith

/-- Two to an integer power, as the reference takes it. -/
theorem pow_two_int (k : ℤ) : Ideal.pow (Ideal.ofBits .f32 0x40000000#32) (((k : ℤ) : ℝ) : EReal) = (((2 : ℝ) ^ k : ℝ) : EReal) := by
  rw [c_two, Ideal.pow_coe_coe]; congr 1; exact Real.rpow_intCast _ _

/-- The two exponents are one integer: the kernel's word holds it, the reference's number is it. -/
theorem scales_eq (a : EReal) (z : ℝ) (hz0 : 0 ≤ z) (hz : z < (2 : ℝ) ^ (126 : ℤ)) (ha : a = 0 ↔ z = 0) :
    kscale z = rscale a z ∧ kinv z = rinv a z := by
  unfold kscale kinv rscale rinv
  by_cases h : z = 0
  · have ha' := ha.mpr h
    have e1 : kexp z = 0#32 := by
      unfold kexp; rw [Ideal.ofBits_zero_f32, h]
      show Scalar.select (BitVec.ofBool (decide (((0 : ℝ) : EReal) = 0))) _ _ = _
      rw [decide_eq_true (by simp)]; rfl
    have e2 : refExp a z = (((0 : ℤ) : ℝ) : EReal) := by
      unfold refExp; rw [Ideal.ofBits_zero_f32, ha']
      show Scalar.select (BitVec.ofBool (decide ((0 : EReal) = 0))) _ _ = _
      rw [decide_eq_true rfl]; simp [Scalar.select]
    have e3 : -refExp a z = (((0 : ℤ) : ℝ) : EReal) := by rw [e2]; simp
    rw [e1, e3, e2, pow_two_int]
    have : fieldOf (127#32) = (V 127 : EReal) := fieldOf_ofNat 127 (by norm_num)
    refine ⟨?_, ?_⟩
    · rw [show (0#32 + 127#32 : BitVec 32) = 127#32 from rfl, this, V_pos (by norm_num)]; norm_num
    · rw [show (0#32 - 0#32 + 127#32 : BitVec 32) = 127#32 from rfl, this, V_pos (by norm_num)]; norm_num
  · have ha' : ¬ a = 0 := fun h' => h (ha.mp h')
    have hzp : 0 < z := lt_of_le_of_ne hz0 (Ne.symm h)
    obtain ⟨n, en, hn, hl, hu⟩ := search_spec z hz0 hz
    have e1 : kexp z = BitVec.ofNat 32 n - 126#32 := by
      unfold kexp; rw [Ideal.ofBits_zero_f32, en]
      show Scalar.select (BitVec.ofBool (decide ((z : EReal) = 0))) _ _ = _
      rw [decide_eq_false (by simpa using h)]; rfl
    have e2 : refExp a z = ((((n : ℤ) - 126 : ℤ) : ℝ) : EReal) := by
      unfold refExp; rw [Ideal.ofBits_zero_f32]
      show Scalar.select (BitVec.ofBool (decide (a = 0))) _ _ = _
      rw [decide_eq_false ha']
      show max _ _ = _
      rw [c_two, c_one, c_m126, ← refExp_pos z hzp n hl hu, Ideal.log_coe, Ideal.log_coe, if_neg (not_le.mpr hzp), if_neg (by norm_num),
        Ideal.div_coe (by positivity), ← EReal.coe_mul, Ideal.liftRound_coe, ← EReal.coe_add]
      exact (EReal.coe_strictMono.monotone.map_max).symm
    have e3 : -refExp a z = ((((126 : ℤ) - n : ℤ) : ℝ) : EReal) := by
      rw [e2, ← EReal.coe_neg]; congr 1; push_cast; ring
    rw [e1, e3, e2, pow_two_int, pow_two_int]
    refine ⟨?_, ?_⟩
    · have : (BitVec.ofNat 32 n - 126#32 + 127#32 : BitVec 32) = BitVec.ofNat 32 (n + 1) := by
        apply BitVec.eq_of_toNat_eq; simp only [BitVec.toNat_add, BitVec.toNat_sub, BitVec.toNat_ofNat]; omega
      rw [this, fieldOf_ofNat _ (by omega), V_pos (by omega)]; congr 2; push_cast; ring
    · have : (0#32 - (BitVec.ofNat 32 n - 126#32) + 127#32 : BitVec 32) = BitVec.ofNat 32 (253 - n) := by
        apply BitVec.eq_of_toNat_eq; simp only [BitVec.toNat_add, BitVec.toNat_sub, BitVec.toNat_ofNat]; omega
      rw [this, fieldOf_ofNat _ (by omega), V_pos (by omega)]; congr 2; push_cast [Nat.cast_sub (by omega : n ≤ 253)]; ring

end Cert.Norm

end
-- ==== Proof.Math.Row.lean ====
/- One row of the problem: its normalisation, its largest magnitude, its scale and its codes, and the bound that keeps the
   scale's exponent inside the range of the format. -/
module

public import proofs.«01_k».proof.Proof.Math.Exponent

@[expose] public section

noncomputable section

namespace Cert.Norm

open Idealize.ShloMosaic

/-- The mean square of a row. -/
def msq (r : Fin 36864 → EReal) : EReal := (∑ d, r d * r d) * ((1 / 36864 : ℝ) : EReal)
/-- The inverse root of the guarded mean square. -/
def inv (r : Fin 36864 → EReal) : EReal := Ideal.rsqrt (msq r + Ideal.ofBits .f32 0x358637BD#32)
/-- The normalised row. -/
def yv (r g : Fin 36864 → EReal) (d : Fin 36864) : EReal := r d * inv r * g d
/-- A magnitude. -/
def mag (x : EReal) : EReal := max x (-x)
/-- The largest magnitude of the normalised row. -/
def amax (r g : Fin 36864 → EReal) : EReal := Finset.univ.sup fun d => mag (yv r g d)
/-- … over the largest code. -/
def zv (r g : Fin 36864 → EReal) : EReal := amax r g * Ideal.ofBits .f32 0x3B124925#32
/-- The code of an entry, with the inverse scale `s`: scaled and clipped to the range of the format. -/
def code (y s : EReal) : EReal := min (Ideal.ofBits .f32 0x43E00000#32) (max (Ideal.ofBits .f32 0xC3E00000#32) (y * s))

/-- A magnitude is not negative. -/
theorem mag_nonneg (x : EReal) : 0 ≤ mag x := by
  unfold mag
  rcases le_total 0 x with h | h
  · exact le_max_of_le_left h
  · exact le_max_of_le_right (by simpa using EReal.neg_le_neg_iff.mpr h)

/-- The magnitude of a real is its absolute value. -/
theorem mag_coe (x : ℝ) : mag (x : EReal) = ((|x| : ℝ) : EReal) := by
  unfold mag; rw [← EReal.coe_neg]; exact (EReal.coe_strictMono.monotone.map_max).symm

/-- The largest magnitude of a row is below what every magnitude is below. -/
theorem amax_le_iff (r g : Fin 36864 → EReal) (z : EReal) : amax r g ≤ z ↔ ∀ d, mag (yv r g d) ≤ z := by
  unfold amax; simp [Finset.sup_le_iff]

/-- The largest magnitude is not negative. -/
theorem amax_nonneg (r g : Fin 36864 → EReal) : 0 ≤ amax r g :=
  le_trans (mag_nonneg _) ((amax_le_iff r g _).mp le_rfl 0)

/-- A square is not negative. -/
theorem sq_nonneg' (x : EReal) : 0 ≤ x * x := by
  rcases le_total 0 x with h | h
  · exact mul_nonneg h h
  · have : 0 ≤ -x := by simpa using EReal.neg_le_neg_iff.mpr h
    simpa using mul_nonneg this this

/-- The square of an infinity is infinite. -/
theorem sq_infinite {x : EReal} (h : x = ⊤ ∨ x = ⊥) : x * x = ⊤ := by
  rcases h with rfl | rfl
  · exact EReal.top_mul_top
  · exact EReal.bot_mul_bot

/-- The bound below, in real numbers: `S` the sum of squares, `T` the root. -/
theorem ratio_real {x S e T : ℝ} (hS : x * x ≤ S) (he : 0 < e) (hT : 0 < T) (h2 : T ^ 2 = S * (1 / 36864) + e) :
    |x * T⁻¹| ≤ 192 := by
  rw [abs_mul, abs_inv, abs_of_pos hT, ← div_eq_mul_inv, div_le_iff₀ hT]
  refine abs_le_of_sq_le_sq ?_ (by positivity)
  rw [mul_pow, h2]
  nlinarith

/-- An entry of a row over the root mean square of the row is at most the root of the number of entries: a finite
    number of magnitude at most 192. -/
theorem ratio_le (r : Fin 36864 → EReal) (d : Fin 36864) : ∃ q : ℝ, r d * inv r = (q : EReal) ∧ |q| ≤ 192 := by
  by_cases hf : ∃ k, r k = ⊤ ∨ r k = ⊥
  · obtain ⟨k, hk⟩ := hf
    have hs : (∑ d, r d * r d) = ⊤ := by
      refine top_le_iff.mp ?_
      rw [← sq_infinite hk]
      exact Finset.single_le_sum (f := fun d => r d * r d) (fun i _ => sq_nonneg' _) (Finset.mem_univ k)
    have hi : inv r = 0 := by
      unfold inv msq; rw [hs, EReal.top_mul_coe_of_pos (by norm_num), c_eps, EReal.top_add_coe]; rfl
    exact ⟨0, by rw [hi]; simp, by simp⟩
  · push Not at hf
    have hr : ∀ k, ∃ x : ℝ, r k = x := fun k => ⟨(r k).toReal, (EReal.coe_toReal (hf k).1 (hf k).2).symm⟩
    choose f hf' using hr
    have hs : (∑ d, r d * r d) = ((∑ d, f d * f d : ℝ) : EReal) := by
      simp only [hf', ← EReal.coe_mul]
      exact (map_sum (⟨⟨Real.toEReal, rfl⟩, fun _ _ => rfl⟩ : ℝ →+ EReal) _ _).symm
    set S : ℝ := ∑ d, f d * f d with hS
    have hS0 : f d * f d ≤ S := Finset.single_le_sum (f := fun d => f d * f d) (fun i _ => mul_self_nonneg _) (Finset.mem_univ d)
    have he : 0 < epsR := by unfold epsR; positivity
    have hp : 0 ≤ f d * f d := mul_self_nonneg _
    have hm : 0 < S * (1 / 36864) + epsR := by nlinarith
    have hi : inv r = (((Real.sqrt (S * (1 / 36864) + epsR))⁻¹ : ℝ) : EReal) := by
      unfold inv msq
      rw [hs, c_eps, ← EReal.coe_mul, ← EReal.coe_add, Ideal.rsqrt_coe, if_neg (not_lt.mpr hm.le), if_neg hm.ne']
    refine ⟨f d * (Real.sqrt (S * (1 / 36864) + epsR))⁻¹, by rw [hi, hf', ← EReal.coe_mul], ?_⟩
    have hq : 0 < Real.sqrt (S * (1 / 36864) + epsR) := Real.sqrt_pos.mpr hm
    have hq2 : Real.sqrt (S * (1 / 36864) + epsR) ^ 2 = S * (1 / 36864) + epsR := Real.sq_sqrt hm.le
    exact ratio_real hS0 he hq hq2

/-- With every weight below 2^127 in magnitude, a row's largest magnitude over the largest code is a number from 0 up to
    2^126, and zero exactly when the largest magnitude is. -/
theorem zv_range (r g : Fin 36864 → EReal) (hg : ∀ d, mag (g d) < (((2 : ℝ) ^ (127 : ℕ) : ℝ) : EReal)) :
    ∃ z : ℝ, zv r g = (z : EReal) ∧ 0 ≤ z ∧ z < (2 : ℝ) ^ (126 : ℤ) ∧ (amax r g = 0 ↔ z = 0) := by
  have hy : ∀ d, mag (yv r g d) ≤ ((192 * (2 : ℝ) ^ (127 : ℕ) : ℝ) : EReal) := by
    intro d
    obtain ⟨q, hq, hb⟩ := ratio_le r d
    have h1 : g d ≠ ⊤ := by
      intro h; have := hg d; rw [h] at this; simp [mag] at this
    have h2 : g d ≠ ⊥ := by
      intro h; have := hg d; rw [h] at this; simp [mag] at this
    obtain ⟨γ, hγ⟩ : ∃ γ : ℝ, g d = γ := ⟨(g d).toReal, (EReal.coe_toReal h1 h2).symm⟩
    have h3 := hg d
    rw [hγ, mag_coe, EReal.coe_lt_coe_iff] at h3
    unfold yv
    rw [hq, hγ, ← EReal.coe_mul, mag_coe, EReal.coe_le_coe_iff, abs_mul]
    exact mul_le_mul hb h3.le (abs_nonneg _) (by norm_num)
  have ha : amax r g ≤ ((192 * (2 : ℝ) ^ (127 : ℕ) : ℝ) : EReal) := (amax_le_iff r g _).mpr hy
  have h0 := amax_nonneg r g
  obtain ⟨a, hA⟩ : ∃ a : ℝ, amax r g = a :=
    ⟨(amax r g).toReal, (EReal.coe_toReal (ne_top_of_le_ne_top (EReal.coe_ne_top _) ha)
      (fun h => by rw [h] at h0; simp at h0)).symm⟩
  rw [hA, EReal.coe_le_coe_iff] at ha
  rw [hA, EReal.coe_nonneg] at h0
  have hc : 0 < invMaxR := by unfold invMaxR; positivity
  refine ⟨a * invMaxR, ?_, mul_nonneg h0 hc.le, ?_, ?_⟩
  · unfold zv; rw [hA, c_invMax, EReal.coe_mul]
  · refine lt_of_le_of_lt (mul_le_mul_of_nonneg_right ha hc.le) ?_
    unfold invMaxR; norm_num
  · rw [hA, EReal.coe_eq_zero, mul_eq_zero]
    exact ⟨fun h => .inl h, fun h => h.resolve_right hc.ne'⟩

/-- The two scales and the two inverse scales of a row are equal. -/
theorem row_scales (r g : Fin 36864 → EReal) (hg : ∀ d, mag (g d) < (((2 : ℝ) ^ (127 : ℕ) : ℝ) : EReal)) :
    kscale (zv r g) = rscale (amax r g) (zv r g) ∧ kinv (zv r g) = rinv (amax r g) (zv r g) := by
  obtain ⟨z, hz, h0, h1, h2⟩ := zv_range r g hg
  rw [hz]; exact scales_eq _ z h0 h1 h2

/-! ## Sums and maxima taken tile by tile

The kernel goes through a row in 18 trips of 16 tiles of 128 lanes, lane by lane, and combines the lanes at the end. -/

/-- The row entry lane `l` of tile `j` of trip `k` holds. -/
def col (k : Fin 18) (j : Fin 16) (l : Fin 128) : Fin 36864 := ⟨2048 * k.val + 128 * j.val + l.val, by omega⟩

/-- Every row entry is in one lane of one tile of one trip. -/
def colEquiv : (Fin 18 × Fin 16) × Fin 128 ≃ Fin 36864 where
  toFun p := col p.1.1 p.1.2 p.2
  invFun d := ((⟨d.val / 2048, by omega⟩, ⟨d.val / 128 % 16, by omega⟩), ⟨d.val % 128, by omega⟩)
  left_inv := by
    rintro ⟨⟨k, j⟩, l⟩
    have := k.isLt; have := j.isLt; have := l.isLt
    refine Prod.ext (Prod.ext (Fin.ext ?_) (Fin.ext ?_)) (Fin.ext ?_) <;> (simp only [col]; omega)
  right_inv := by
    intro d
    refine Fin.ext ?_; simp only [col]; omega

/-- A sum over lanes, trips and tiles is the sum over the row. -/
theorem sum_col (f : Fin 36864 → EReal) : ∑ l : Fin 128, ∑ k : Fin 18, ∑ j : Fin 16, f (col k j l) = ∑ d, f d := by
  rw [← Equiv.sum_comp colEquiv f, Fintype.sum_prod_type_right]
  refine Finset.sum_congr rfl fun l _ => ?_
  rw [Fintype.sum_prod_type]; rfl

/-- What holds of every lane, trip and tile holds of the whole row. -/
theorem forall_col (P : Fin 36864 → Prop) : (∀ l k j, P (col k j l)) ↔ ∀ d, P d :=
  ⟨fun h d => by
    rw [← colEquiv.apply_symm_apply d]
    exact h (colEquiv.symm d).2 (colEquiv.symm d).1.1 (colEquiv.symm d).1.2, fun h _ _ _ => h _⟩

/-- A sequence that grows by `f k` at step `k` from zero holds the sum. -/
theorem acc_sum (N : ℕ) (a : ℕ → EReal) (f : Fin N → EReal) (h0 : a 0 = 0) (hs : ∀ k : Fin N, a (k.val + 1) = a k.val + f k) :
    a N = ∑ k, f k := by
  induction N with
  | zero => simpa using h0
  | succ n ih =>
    rw [Fin.sum_univ_castSucc, ← ih (fun k => f k.castSucc) (fun k => hs k.castSucc)]
    exact hs (Fin.last n)

/-- A sequence that takes the maximum with `f k` at step `k` from zero holds the maximum. -/
theorem acc_max (N : ℕ) (a : ℕ → EReal) (f : Fin N → EReal) (h0 : a 0 = 0) (hs : ∀ k : Fin N, a (k.val + 1) = max (a k.val) (f k)) (z : EReal) :
    a N ≤ z ↔ 0 ≤ z ∧ ∀ k, f k ≤ z := by
  induction N with
  | zero => rw [h0]; simp
  | succ n ih =>
    rw [show a (n + 1) = max (a n) (f (Fin.last n)) from hs (Fin.last n), max_le_iff,
      ih (fun k => f k.castSucc) (fun k => hs k.castSucc), and_assoc]
    refine and_congr_right fun _ => ?_
    constructor
    · rintro ⟨h1, h2⟩ k
      refine Fin.lastCases h2 (fun i => h1 i) k
    · intro h; exact ⟨fun k => h _, h _⟩

/-- Sixteen terms added from the left. -/
def add16 (f : Fin 16 → EReal) : EReal :=
  f 0 + f 1 + f 2 + f 3 + f 4 + f 5 + f 6 + f 7 + f 8 + f 9 + f 10 + f 11 + f 12 + f 13 + f 14 + f 15
/-- Sixteen additions in order are a sum. -/
theorem add16_eq (f : Fin 16 → EReal) : add16 f = ∑ j, f j := by
  unfold add16; simp only [Fin.sum_univ_castSucc, Finset.univ_eq_empty, Finset.sum_empty, zero_add]; rfl

/-- Sixteen terms maximised from the left, onto `a`. -/
def max16 (a : EReal) (f : Fin 16 → EReal) : EReal :=
  max (max (max (max (max (max (max (max (max (max (max (max (max (max (max (max a (f 0)) (f 1)) (f 2)) (f 3)) (f 4)) (f 5)) (f 6)) (f 7)) (f 8)) (f 9)) (f 10)) (f 11)) (f 12)) (f 13)) (f 14)) (f 15)
/-- Sixteen maxima in order are the maximum of all. -/
theorem max16_eq (a : EReal) (f : Fin 16 → EReal) : max16 a f = max a (Finset.univ.sup f) := by
  refine eq_of_forall_ge_iff fun z => ?_
  unfold max16
  simp only [max_le_iff, Finset.sup_le_iff, Finset.mem_univ, true_imp_iff, Fin.forall_fin_succ, and_assoc, IsEmpty.forall_iff, and_true]
  rfl

end Cert.Norm

end
-- ==== Proof.KernelIdeal.Tiles.lean ====
/- The kernel's loads and stores of 128-lane tiles: which entries of a block a tile is, and what a tile holds of the
   new residual and of the normalised row. -/
module

public import proofs.«01_k».proof.Proof.Gen.KernelIdeal.Loops
public import proofs.«01_k».proof.Proof.Math.Row

@[expose] public section

set_option maxRecDepth 8192

noncomputable section

namespace Cert.KernelIdeal.Val

open Cert.KernelIdeal Cert.KernelIdeal.Gen Idealize.ShloMosaic Idealize.ShloMosaic.TcCoe Idealize.SL.Sem
open Idealize.ShloMosaic.Tactic

variable (𝒱 : Variants) (c : Dev nD) (bd : Option 𝒱.V) (i : grid0.Coords)
  (arg1 : Memref sig .tc .vmem S32x36864 .bf16) (harg1 : arg1.IsWhole)
  (arg2 : Memref sig .tc .vmem S32x36864 .bf16) (harg2 : arg2.IsWhole)
  (arg3 : Memref sig .tc .vmem S1x36864 .bf16) (harg3 : arg3.IsWhole)
  (arg4 : Memref sig .tc .vmem S32x36864 .bf16) (harg4 : arg4.IsWhole)
  (arg5 : Memref sig .tc .vmem S32x36864 .fp8e4m3) (harg5 : arg5.IsWhole)
  (arg6 : Memref sig .tc .vmem S24x128 .f32) (harg6 : arg6.IsWhole)
  (arg7 : Memref sig .tc .vmem S1x36864 .f32) (harg7 : arg7.IsWhole)

/-- The entry of a block that entry `x` of tile `j` of trip `k` is. -/
abbrev tix (k : Fin 18) (j : Fin 16) (x : S32x128.Idx) : S32x36864.Idx := ix2 (x 0) (Norm.col k j (x 1))
/-- … and of the weights' row. -/
abbrev gix (k : Fin 18) (j : Fin 16) (x : S32x128.Idx) : S1x36864.Idx := ix2 0 (Norm.col k j (x 1))

/-- The rectangle of tile `j` of trip `k` in a block. -/
abbrev tR (k : Fin k0_t1_loop.trips) (j : Fin 16) : Rect S32x36864 :=
  Rect.unit (s := S32x36864) (k0_off1 k (BitVec.ofNat 32 (128 * j.val))) S32x128.size (k0_off1_inb k j)
/-- … and in the weights' row. -/
abbrev gR (k : Fin k0_t2_loop.trips) (j : Fin 16) : Rect S1x36864 :=
  Rect.unit (s := S1x36864) (k0_off3 k (BitVec.ofNat 32 (128 * j.val))) S1x128.size (k0_off3_inb k j)

/-- Where an entry of a tile lies in the block. -/
theorem tR_idx (k : Fin 18) (j : Fin 16) (x : S32x128.Idx) : (tR k j).idx x = tix k j x := by
  have h := k0_off1_eq k j
  funext a
  match a with
  | ⟨0, _⟩ => exact Fin.ext (by show k0_off1 k (BitVec.ofNat 32 (128 * j.val)) 0 + 1 * (x 0).val = _; rw [h]; show 0 + 1 * (x 0).val = (x 0).val; omega)
  | ⟨1, _⟩ => exact Fin.ext (by
      show k0_off1 k (BitVec.ofNat 32 (128 * j.val)) 1 + 1 * (x 1).val = _; rw [h]; show 2048 * k.val + 128 * j.val + 1 * (x 1).val = _
      simp only [tix, ix2, Norm.col]; omega)

/-- Where an entry of a tile lies in gamma's row. -/
theorem gR_idx (k : Fin 18) (j : Fin 16) (x : S1x128.Idx) : (gR k j).idx x = ix2 0 (Norm.col k j (x 1)) := by
  have h := k0_off3_eq k j
  funext a
  match a with
  | ⟨0, _⟩ => exact Fin.ext (by
      have h0 : (x 0).val = 0 := by have := (x 0).isLt; change (x 0).val < 1 at this; omega
      show k0_off3 k (BitVec.ofNat 32 (128 * j.val)) 0 + 1 * (x 0).val = _; rw [h]; show 0 + 1 * (x 0).val = 0; omega)
  | ⟨1, _⟩ => exact Fin.ext (by
      show k0_off3 k (BitVec.ofNat 32 (128 * j.val)) 1 + 1 * (x 1).val = _; rw [h]; show 2048 * k.val + 128 * j.val + 1 * (x 1).val = _
      simp only [ix2, Norm.col]; omega)

/-- The tile of a block's contents. -/
def tile (X : Vec Ideal S32x36864 .bf16) (k : Fin 18) (j : Fin 16) : Vec Ideal S32x128 .bf16 := fun x => X (tix k j x)
/-- The tile of the weights' row. -/
def gtile (X : Vec Ideal S1x36864 .f32) (k : Fin 18) (j : Fin 16) : Vec Ideal S1x128 .f32 := fun x => X (ix2 0 (Norm.col k j (x 1)))

/-- A load of a tile reads the block there. -/
theorem read_tile (m : Memref sig .tc .vmem S32x36864 .bf16) (hm : m.IsWhole) (X : Vec Ideal S32x36864 .bf16) (k : Fin 18) (j : Fin 16) :
    View.readAt (Elt Ideal) m.view (tR k j).toLoadRect (hm.unread X) = tile X k j := by
  funext x
  show m.view.read (Elt Ideal) (hm.unread X) ((tR k j).idx x) = _
  rw [hm.read_unread, tR_idx]; rfl
/-- A load of a tile of gamma reads the row there. -/
theorem read_gtile (m : Memref sig .tc .vmem S1x36864 .f32) (hm : m.IsWhole) (X : Vec Ideal S1x36864 .f32) (k : Fin 18) (j : Fin 16) :
    View.readAt (Elt Ideal) m.view (gR k j).toLoadRect (hm.unread X) = gtile X k j := by
  funext x
  show m.view.read (Elt Ideal) (hm.unread X) ((gR k j).idx x) = _
  rw [hm.read_unread, gR_idx]; rfl

/-- One tile of the first loop: the sum of the two blocks' tiles. -/
def nrT (A B : Vec Ideal S32x128 .bf16) : Vec Ideal S32x128 .bf16 := fun x => A x + B x

/-- The new residual of a tile is the sum of the two tiles. -/
theorem pay48_eq (A B : Vec Ideal S32x128 .bf16) : k0_pay48 (F := Ideal) A B = nrT A B := by
  unfold k0_pay48 nrT; funext x
  rw [shapeCast_self, shapeCast_self]; rfl

section
variable (X1 : BufTy.Contents (Elt Ideal) arg1.view.ty) (X2 : BufTy.Contents (Elt Ideal) arg2.view.ty)
/-- The first loop's tile as the run spells it. -/
abbrev nrR (k : Fin 18) (j : Fin 16) : Vec Ideal S32x128 .bf16 :=
  k0_pay48 (F := Ideal) (View.readAt (Elt Ideal) arg1.view (tR k j).toLoadRect X1) (View.readAt (Elt Ideal) arg2.view (tR k j).toLoadRect X2)

/-- The stores of a trip of the first loop. -/
theorem tripL_t1 (k : Fin 18) (acc : FVec Ideal S32x128 .f32) :
    tripL_k0_t1 (F := Ideal) 𝒱 c bd i arg1 harg1 arg2 harg2 arg3 harg3 arg4 harg4 arg5 harg5 arg6 harg6 arg7 harg7 X1 X2 k acc
      = ([15, 14, 13, 12, 11, 10, 9, 8, 7, 6, 5, 4, 3, 2, 1, 0] : List (Fin 16)).map fun j =>
          (⟨tR k j, nrR arg1 arg2 X1 X2 k j⟩ : View.Piece (Elt Ideal) S32x36864 .bf16) := by
  unfold tripL_k0_t1 trip_k0_t1; rfl

/-- The carried value of a trip of the first loop. -/
theorem tripR_t1 (k : Fin 18) (acc : FVec Ideal S32x128 .f32) (x : S32x128.Idx) :
    tripR_k0_t1 (F := Ideal) 𝒱 c bd i arg1 harg1 arg2 harg2 arg3 harg3 arg4 harg4 arg5 harg5 arg6 harg6 arg7 harg7 X1 X2 k acc x
      = acc x + Norm.add16 fun j => nrR arg1 arg2 X1 X2 k j x * nrR arg1 arg2 X1 X2 k j x := by
  unfold tripR_k0_t1 trip_k0_t1; rfl
end

/-- One tile of the second and the third loop: the new residual's tile times `v`, times the weights. -/
def hT (v : FVec Ideal S32x128 .f32) (A : Vec Ideal S32x128 .bf16) (B : Vec Ideal S1x128 .f32) : FVec Ideal S32x128 .f32 :=
  mulf (mulf (extf .f32 (shapeCast S32x128 A shapeCasts_S32x128_S32x128) bitsLt_bf16_f32) v) (broadcastTo S32x128 B broadcasts_S1x128_S32x128)

/-- The normalised tile, at an entry. -/
theorem hT_apply (v : FVec Ideal S32x128 .f32) (A : Vec Ideal S32x128 .bf16) (B : Vec Ideal S1x128 .f32) (x : S32x128.Idx) :
    hT v A B x = A x * v x * B (ix2 0 (x 1)) := by
  unfold hT
  rw [shapeCast_self]
  show A x * v x * broadcastTo S32x128 B broadcasts_S1x128_S32x128 x = _
  rw [broadcastTo_apply B broadcasts_S1x128_S32x128 x (ix2 0 (x 1)) (by
    intro a; match a with | ⟨0, _⟩ => rfl | ⟨1, _⟩ => rfl)]

section
variable (X4 : BufTy.Contents (Elt Ideal) arg4.view.ty) (X7 : BufTy.Contents (Elt Ideal) arg7.view.ty)
/-- The tile as the run spells it. -/
abbrev hR (v : FVec Ideal S32x128 .f32) (k : Fin 18) (j : Fin 16) : FVec Ideal S32x128 .f32 :=
  hT v (View.readAt (Elt Ideal) arg4.view (tR k j).toLoadRect X4) (View.readAt (Elt Ideal) arg7.view (gR k j).toLoadRect X7)

/-- The carried value of a trip of the second loop. -/
theorem tripR_t2 (v5 : FVec Ideal S32x128 .f32) (k : Fin 18) (acc : FVec Ideal S32x128 .f32) (x : S32x128.Idx) :
    tripR_k0_t2 (F := Ideal) 𝒱 c bd i arg1 harg1 arg2 harg2 arg3 harg3 arg4 harg4 arg5 harg5 arg6 harg6 arg7 harg7 v5 X4 X7 k acc x
      = Norm.max16 (acc x) fun j => Norm.mag (hR arg4 arg7 X4 X7 (k0_pay52 v5) k j x) := by
  unfold tripR_k0_t2 trip_k0_t2; rfl

/-- The stores of a trip of the third loop. -/
theorem tripL_t3 (arg0 : BitVec 32) (v14 v22 : FVec Ideal S32x128 .f32) (v24 : IVec S32x128 1) (v79 v80 : IVec S32x128 32) (k : Fin 18) :
    tripL_k0_t3 (F := Ideal) 𝒱 c bd i arg1 harg1 arg2 harg2 arg3 harg3 arg4 harg4 arg5 harg5 arg6 harg6 arg7 harg7 arg0 v14 v22 v24 v79 v80 X4 X7 k
      = ([15, 14, 13, 12, 11, 10, 9, 8, 7, 6, 5, 4, 3, 2, 1, 0] : List (Fin 16)).map fun j =>
          (⟨tR k j, fun x => Norm.code (hR arg4 arg7 X4 X7 v14 k j x) (k0_pay62 v22 v24 v79 v80 x)⟩ :
            View.Piece (Elt Ideal) S32x36864 .fp8e4m3) := by
  unfold tripL_k0_t3 trip_k0_t3; rfl
end

end Cert.KernelIdeal.Val

end
-- ==== Proof.KernelIdeal.Lanes.lean ====
/- What the kernel's pure steps between its loops compute, one row at a time: the sum over the lanes and the inverse root,
   the maximum over the lanes, the exponent, the scale and its inverse, the row of scales. -/
module

public import proofs.«01_k».proof.Proof.KernelIdeal.Tiles

@[expose] public section

set_option maxRecDepth 8192

noncomputable section

namespace Cert.KernelIdeal.Val

open Cert.KernelIdeal Cert.KernelIdeal.Gen Idealize.ShloMosaic Idealize.ShloMosaic.TcCoe Idealize.SL.Sem
open Idealize.ShloMosaic.Tactic

/-- The entry a reduction over the lanes reads: row `r`, lane `k`. -/
theorem lift_lane (h : S32x128.Reduces [1] S32) (r : Fin 32) (k : Fin 128) : h.lift (ix1 r) k = ix2 r k := by
  funext a; match a with | ⟨0, _⟩ => rfl | ⟨1, _⟩ => rfl
/-- The entry a reduction over the rows reads. -/
theorem lift_row (h : S32x128.Reduces [0] S128) (l : Fin 128) (t : Fin 32) : h.lift (ix1 l) t = ix2 t l := by
  funext a; match a with | ⟨0, _⟩ => rfl | ⟨1, _⟩ => rfl

/-- The sum over the lanes of a row. -/
theorem lanes_sum (v : FVec Ideal S32x128 .f32) (r : Fin 32) (x : S32x128.Idx) (hx : x 0 = r) (h : S32x128.Reduces [1] S32) (hφ : FKind.Formats .f32) (ha) :
    broadcastTo S32x128 (shapeCast S32x1 (multiReduction .add [1] S32 v 0x00000000#32 h hφ ha) shapeCasts_S32_S32x1) broadcasts_S32x1_S32x128 x = ∑ l : Fin 128, v (ix2 r l) := by
  subst hx
  rw [broadcastTo_apply _ broadcasts_S32x1_S32x128 x (ix2 (x 0) 0) (by
    intro a; match a with | ⟨0, _⟩ => rfl | ⟨1, _⟩ => rfl)]
  rw [shapeCast_apply _ shapeCasts_S32_S32x1 (ix2 (x 0) 0) (ix1 (x 0)) (by
      rw [Shape.rowMajor_val_two, Shape.rowMajor_val_one]; show (x 0).val = (x 0).val * 1 + 0; omega)]
  refine (Ideal.multiReduction_add_single v _ h hφ ha _).trans (Finset.sum_congr rfl fun l _ => ?_)
  exact congrArg v (lift_lane h (x 0) l)

/-- The inverse root of a row's mean square, from the 128 partial sums of its lanes. -/
theorem pay52_apply (v5 : FVec Ideal S32x128 .f32) (x : S32x128.Idx) :
    k0_pay52 v5 x = Ideal.rsqrt ((∑ l : Fin 128, v5 (ix2 (x 0) l)) * ((1 / 36864 : ℝ) : EReal) + Ideal.ofBits .f32 0x358637BD#32) := by
  have hn : (Named.named κ "inv_d" 0x37E38E39#32 : Ideal .f32) = ((1 / 36864 : ℝ) : EReal) := IdealRules.named_const.ideal_named_scalar _ _ _ _ rfl
  rw [← lanes_sum v5 (x 0) x rfl reduces_S32x128_S32 (.inl rfl) rfl, ← hn]
  unfold k0_pay52
  rw [shapeCast_self]
  rfl

/-- The largest of the lanes' maxima. -/
def lmax (v16 : FVec Ideal S32x128 .f32) (r : Fin 32) : EReal := Finset.univ.sup fun l : Fin 128 => v16 (ix2 r l)

/-- The maximum over the lanes of a row. -/
theorem lanes_max (v : FVec Ideal S32x128 .f32) (r : Fin 32) (x : S32x128.Idx) (hx : x 0 = r) (h : S32x128.Reduces [1] S32) (hφ : FKind.Formats .f32) (ha) :
    broadcastTo S32x128 (shapeCast S32x1 (multiReduction .maximumf [1] S32 v 0xFF800000#32 h hφ ha) shapeCasts_S32_S32x1) broadcasts_S32x1_S32x128 x = lmax v r := by
  subst hx
  rw [broadcastTo_apply _ broadcasts_S32x1_S32x128 x (ix2 (x 0) 0) (by
    intro a; match a with | ⟨0, _⟩ => rfl | ⟨1, _⟩ => rfl)]
  rw [shapeCast_apply _ shapeCasts_S32_S32x1 (ix2 (x 0) 0) (ix1 (x 0)) (by
      rw [Shape.rowMajor_val_two, Shape.rowMajor_val_one]; show (x 0).val = (x 0).val * 1 + 0; omega)]
  refine (Ideal.multiReduction_maximumf_single v _ h hφ ha _).trans ?_
  refine eq_of_forall_ge_iff fun z => ?_
  unfold lmax
  rw [Finset.fold_max_le, Finset.sup_le_iff]
  constructor
  · intro h' k _; exact (congrArg v (lift_lane h (x 0) k)).symm.trans_le (h'.2 k (Finset.mem_univ _))
  · intro h'; exact ⟨by rw [show (FloatOps.ofBits .f32 0xFF800000#32 : Ideal .f32) = ⊥ from Norm.c_negInf]; exact bot_le, fun k _ => (congrArg v (lift_lane h (x 0) k)).trans_le (h' k (Finset.mem_univ _))⟩

/-- … over the largest code. -/
theorem pay54_apply (v16 : FVec Ideal S32x128 .f32) (x : S32x128.Idx) :
    k0_pay54 v16 x = lmax v16 (x 0) * Ideal.ofBits .f32 0x3B124925#32 := by
  rw [← lanes_max v16 (x 0) x rfl reduces_S32x128_S32 (.inl rfl) rfl]
  unfold k0_pay54
  rw [shapeCast_self]
  rfl

/-- One step of the search, on whole vectors. -/
def vstep (z : FVec Ideal S32x128 .f32) (n : IVec S32x128 32) (w : BitVec 32) : IVec S32x128 32 :=
  select (cmpf .oge z (bitcastToFloat .f32 (shli (addi n (broadcast S32x128 w)) (broadcast S32x128 23#32)))) (addi n (broadcast S32x128 w)) n

/-- One comparison of the search, at an entry. -/
theorem vstep_apply (z : FVec Ideal S32x128 .f32) (n : IVec S32x128 32) (w : BitVec 32) (x : S32x128.Idx) :
    vstep z n w x = Norm.step (z x) (n x) w := rfl

/-- The first comparison of the search. -/
theorem pay56_eq (v16 : FVec Ideal S32x128 .f32) : k0_pay56 v16 = vstep (k0_pay54 v16) (broadcast S32x128 0#32) 128#32 := rfl

/-- Five further comparisons of the search. -/
theorem pay58_eq (z : FVec Ideal S32x128 .f32) (n : IVec S32x128 32) :
    k0_pay58 z n k0_pay57 = vstep z (vstep z (vstep z (vstep z (vstep z n 64#32) 32#32) 16#32) 8#32) 4#32 := rfl

/-- The last two comparisons of the search, and the exponent. -/
theorem pay60_eq (z : FVec Ideal S32x128 .f32) (c : IVec S32x128 1) (n : IVec S32x128 32) :
    k0_pay60 z c n k0_pay59 = select c (broadcast S32x128 0#32) (subi (vstep z (vstep z n 2#32) 1#32) (broadcast S32x128 126#32)) := rfl

/-- The exponent of the scale. -/
theorem pay60_apply (v16 : FVec Ideal S32x128 .f32) (x : S32x128.Idx) :
    k0_pay60 (k0_pay54 v16) (k0_pay55 v16) (k0_pay58 (k0_pay54 v16) (k0_pay56 v16) k0_pay57) k0_pay59 x = Norm.kexp (k0_pay54 v16 x) := by
  rw [pay60_eq, pay58_eq, pay56_eq]
  unfold k0_pay55
  generalize k0_pay54 v16 = z
  show Scalar.select (Ideal.cmp .oeq (z x) _) 0#32 (vstep z _ _ x - 126#32) = _
  simp only [vstep_apply]
  unfold Norm.kexp Norm.search Norm.search6
  rfl

/-- The scale. -/
theorem pay61_apply (v16 : FVec Ideal S32x128 .f32) (x : S32x128.Idx) :
    k0_pay61 (k0_pay54 v16) (k0_pay55 v16) (k0_pay58 (k0_pay54 v16) (k0_pay56 v16) k0_pay57) k0_pay59 x = Norm.kscale (k0_pay54 v16 x) := by
  unfold Norm.kscale; rw [← pay60_apply]; rfl

/-- The inverse scale. -/
theorem pay62_apply (v16 : FVec Ideal S32x128 .f32) (x : S32x128.Idx) :
    k0_pay62 (k0_pay54 v16) (k0_pay55 v16) (k0_pay58 (k0_pay54 v16) (k0_pay56 v16) k0_pay57) k0_pay59 x = Norm.kinv (k0_pay54 v16 x) := by
  unfold Norm.kinv; rw [← pay60_apply]; rfl

/-- The lane of the scales' row in which step `n` puts token `t`'s scale is lane `32 (n mod 4) + t`. -/
abbrev putsAt (n : ℕ) (t : Fin 32) (l : Fin 128) : Prop := l.val = t.val + n % 4 * 32

/-- The row's offset, at each of the 96 steps. -/
theorem off_eq : ∀ n : Fin 96,
    Scalar.muli (Scalar.select (Scalar.andi (Scalar.xori (Scalar.cmpi .slt (Scalar.remsi (BitVec.ofNat 32 n.val) (Scalar.select (Scalar.cmpi .eq 4#32 0#32) 1#32 4#32)) 0#32) (Scalar.cmpi .slt (Scalar.select (Scalar.cmpi .eq 4#32 0#32) 1#32 4#32) 0#32)) (Scalar.cmpi .ne (Scalar.remsi (BitVec.ofNat 32 n.val) (Scalar.select (Scalar.cmpi .eq 4#32 0#32) 1#32 4#32)) 0#32))
      (Scalar.addi (Scalar.remsi (BitVec.ofNat 32 n.val) (Scalar.select (Scalar.cmpi .eq 4#32 0#32) 1#32 4#32)) (Scalar.select (Scalar.cmpi .eq 4#32 0#32) 1#32 4#32))
      (Scalar.remsi (BitVec.ofNat 32 n.val) (Scalar.select (Scalar.cmpi .eq 4#32 0#32) 1#32 4#32))) 32#32 = BitVec.ofNat 32 (n.val % 4 * 32) := by
  decide

/-- The condition of the select in the row's update. -/
theorem mask_eq (n : ℕ) (t : Fin 32) (l : Fin 128) (a b : EReal) :
    Scalar.select (IntOp.cmpi .eq (BitVec.ofNat 32 l.val) (BitVec.ofNat 32 t.val + BitVec.ofNat 32 (n % 4 * 32))) a b = if putsAt n t l then a else b := by
  have hiff : (BitVec.ofNat 32 l.val == BitVec.ofNat 32 t.val + BitVec.ofNat 32 (n % 4 * 32)) = decide (putsAt n t l) := by
    rw [← BitVec.ofNat_add, Bool.beq_eq_decide_eq, decide_eq_decide, ← BitVec.toNat_inj, BitVec.toNat_ofNat, BitVec.toNat_ofNat,
      Nat.mod_eq_of_lt (by omega), Nat.mod_eq_of_lt (by omega)]
  show (if BitVec.ofBool (_ == _) = 1#1 then a else b) = _
  rw [hiff]
  by_cases h : putsAt n t l
  · rw [if_pos h, decide_eq_true h]; rfl
  · rw [if_neg h, decide_eq_false h]; rfl

/-- The row of scales: each lane adds the scales of the tokens whose lane it is. -/
theorem pay1_apply (n : Fin 96) (v106 : FVec Ideal S32x128 .f32) (v151 : Vec Ideal S1x128 .f32) (x : S1x128.Idx) :
    k0_pay1 (BitVec.ofNat 32 n.val) v106 v151 x = v151 x + ∑ t : Fin 32, if putsAt n.val t (x 1) then v106 (ix2 t (x 1)) else 0 := by
  unfold k0_pay1
  simp only [off_eq n]
  rw [shapeCast_self]
  show v151 x + shapeCast S1x128 _ _ x = _
  rw [shapeCast_apply _ shapeCasts_S128_S1x128 x (ix1 (x 1)) (by
    have h0 : (x 0).val = 0 := by have := (x 0).isLt; change (x 0).val < 1 at this; omega
    rw [Shape.rowMajor_val_two, Shape.rowMajor_val_one]; show (x 1).val = (x 0).val * 128 + (x 1).val; omega)]
  refine congrArg _ ((Ideal.multiReduction_add_single _ _ _ _ _ _).trans (Finset.sum_congr rfl fun t _ => ?_))
  have hz : Ideal.ofBits .f32 0x00000000#32 = 0 := Ideal.ofBits_zero_f32
  rw [← hz]
  refine Eq.trans ?_ (mask_eq n.val t (x 1) _ _)
  have h1 : ∀ y : S32x128.Idx, iota .tc S32x128 32 [1] iota_S32x128_d1_w32 y = BitVec.ofNat 32 (y 1).val := fun y => by
    rw [iota_apply]; exact congrArg _ (Nat.zero_add _)
  have h0 : ∀ y : S32x128.Idx, iota .tc S32x128 32 [0] iota_S32x128_d0_w32 y = BitVec.ofNat 32 (y 0).val := fun y => by
    rw [iota_apply]; exact congrArg _ (Nat.zero_add _)
  refine (congrArg _ (lift_row reduces_S32x128_S128 (x 1) t)).trans ?_
  show Scalar.select (IntOp.cmpi .eq (iota .tc S32x128 32 [1] iota_S32x128_d1_w32 (ix2 t (x 1)))
    (iota .tc S32x128 32 [0] iota_S32x128_d0_w32 (ix2 t (x 1)) + BitVec.ofNat 32 (n.val % 4 * 32))) (v106 (ix2 t (x 1))) (Ideal.ofBits .f32 0x00000000#32) = _
  rw [h1, h0]; rfl

end Cert.KernelIdeal.Val

end
-- ==== Proof.KernelIdeal.Runs.lean ====
/- What the runs of one grid step share: the host operations before the launch, the blocks the windows read,
   the condition of the body's one branch and the staging buffers. The layout follows the generated frame modules,
   which stop at `k0_off6` (the row `step // 4` of the scales, a floor division); its closed form is proved first here. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Where the scales of one grid step are stored: row `step / 4`, from the first lane on. -/
theorem k0_off6_eq : ∀ i : grid0.Coords, k0_off6 i = ![((i 0).val / 4), 0] := by decide +kernel
instance closedOff_k0_off6 (i : grid0.Coords) : ClosedOff (k0_off6 i) := ⟨![((i 0).val / 4), 0], k0_off6_eq i⟩

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations make no new buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 96 = 0 :=
  (fun t => by
    have ht : t.val < 96 := Nat.lt_of_lt_of_eq t.isLt N_0
    have e0 : (grid0.coords t 0).val = t.val / 1 % 96 := Pipeline.Grid.coords_val t 0 (by decide) rfl
    simp only [cond0_0, e0]
    word_cmp
   : ∀ t : Fin grid0.N, cond0_0 (grid0.coords t) ↔ t.val % 96 = 0)

/-! ## The kernel body on any staging memrefs: a subtype the run finds -/

/-- One staging buffer of output window 3, through which its contents are stated (`View.read_writes_of_cover`: the
    choice does not matter). -/
abbrev VO0_3 : View sig .tc .vmem S32x36864 .bf16 := (Memref.whole cc0_stg3_0 : Memref sig .tc .vmem S32x36864 .bf16).view
/-- One staging buffer of output window 4, through which its contents are stated (`View.read_writes_of_cover`: the
    choice does not matter). -/
abbrev VO0_4 : View sig .tc .vmem S32x36864 .fp8e4m3 := (Memref.whole cc0_stg4_0 : Memref sig .tc .vmem S32x36864 .fp8e4m3).view
/-- One staging buffer of output window 5, through which its contents are stated (`View.read_writes_of_cover`: the
    choice does not matter). -/
abbrev VO0_5 : View sig .tc .vmem S24x128 .f32 := (Memref.whole cc0_stg5_0 : Memref sig .tc .vmem S24x128 .f32).view
/-- Each window's current staging memref at point `t`, spelled as the pipeline passes it (`bodyAt0`), and its wholeness. -/
abbrev ms0_0 (t : Fin cfg0.N) : Memref sig .tc .vmem S32x36864 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x36864 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x36864 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x36864 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S32x36864 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S24x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1x36864 .f32 := Memref.whole cc0_scratch0
/-- The scratch `arg7` the kernel carries between points, as a view: what it holds is stated through it. -/
abbrev VS0_0 : View sig .tc .vmem S1x36864 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the first loop leaves in the new residual's buffer

The second and third loop read the new residual back from its buffer. The first loop's stores cover that buffer, so
what the buffer held before does not matter: its contents are the pieces read back. -/

/-- The number of trips of the first loop. -/
abbrev trips1 : ℕ := Scf.trips k0_t1_loop.lb k0_t1_loop.ub k0_t1_loop.st
abbrev trips2 : ℕ := Scf.trips k0_t2_loop.lb k0_t2_loop.ub k0_t2_loop.st
abbrev trips3 : ℕ := Scf.trips k0_t3_loop.lb k0_t3_loop.ub k0_t3_loop.st

set_option maxHeartbeats 1000000 in
/-- The first loop's stores (18 trips of 16 tiles) tile the new residual's block. -/
theorem cover_t1 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole)
    (x0 : Vec F S32x36864 .bf16) (x1 : Vec F S32x36864 .bf16) (y : S32x36864.Idx) :
    ∃ pc ∈ (st_k0_t1 (F := F) Variants.none c none i arg1 harg1 arg2 harg2 arg3 harg3 arg4 harg4 arg5 harg5 arg6 harg6 arg7 harg7 (harg1.unread x0) (harg2.unread x1) k0_pay47 trips1).2, y ∈ pc.1.set :=
  View.cover_of_tiledL (st_k0_t1 (F := F) Variants.none c none i arg1 harg1 arg2 harg2 arg3 harg3 arg4 harg4 arg5 harg5 arg6 harg6 arg7 harg7 (harg1.unread x0) (harg2.unread x1) k0_pay47 trips1).2 S32x128.size (by sl_kernel_rfl) y

/-- So the buffer's contents after the first loop are those pieces, whatever it held before. -/
theorem writes_t1 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole)
    (x0 : Vec F S32x36864 .bf16) (x1 : Vec F S32x36864 .bf16) (f : BufTy.Contents (Elt F) arg4.view.ty) :
    arg4.view.writes (Elt F) f (st_k0_t1 (F := F) Variants.none c none i arg1 harg1 arg2 harg2 arg3 harg3 arg4 harg4 arg5 harg5 arg6 harg6 arg7 harg7 (harg1.unread x0) (harg2.unread x1) k0_pay47 trips1).2
      = harg4.unread (View.canon (st_k0_t1 (F := F) Variants.none c none i arg1 harg1 arg2 harg2 arg3 harg3 arg4 harg4 arg5 harg5 arg6 harg6 arg7 harg7 (harg1.unread x0) (harg2.unread x1) k0_pay47 trips1).2) :=
  harg4.eq_unread (View.read_writes_eq_canon _ _ _ (cover_t1 c i arg1 harg1 arg2 harg2 arg3 harg3 arg4 harg4 arg5 harg5 arg6 harg6 arg7 harg7 x0 x1))

end Cert.KernelIdeal.Gen

end
-- ==== Proof.KernelIdeal.Block.lean ====
/- What one grid step computes from its blocks: the loops' sums and maxima, the new residual, the codes. -/
module

public import proofs.«01_k».proof.Proof.KernelIdeal.Lanes
public import proofs.«01_k».proof.Proof.KernelIdeal.Runs

@[expose] public section

set_option maxRecDepth 8192

noncomputable section

namespace Cert.KernelIdeal.Val

open Cert.KernelIdeal Cert.KernelIdeal.Gen Idealize.ShloMosaic Idealize.ShloMosaic.TcCoe Idealize.SL.Sem
open Idealize.ShloMosaic.Tactic

variable (𝒱 : Variants) (c : Dev nD) (bd : Option 𝒱.V) (i : grid0.Coords)
  (arg1 : Memref sig .tc .vmem S32x36864 .bf16) (harg1 : arg1.IsWhole)
  (arg2 : Memref sig .tc .vmem S32x36864 .bf16) (harg2 : arg2.IsWhole)
  (arg3 : Memref sig .tc .vmem S1x36864 .bf16) (harg3 : arg3.IsWhole)
  (arg4 : Memref sig .tc .vmem S32x36864 .bf16) (harg4 : arg4.IsWhole)
  (arg5 : Memref sig .tc .vmem S32x36864 .fp8e4m3) (harg5 : arg5.IsWhole)
  (arg6 : Memref sig .tc .vmem S24x128 .f32) (harg6 : arg6.IsWhole)
  (arg7 : Memref sig .tc .vmem S1x36864 .f32) (harg7 : arg7.IsWhole)
  (x0 x1 : Vec Ideal S32x36864 .bf16) (G7 : Vec Ideal S1x36864 .f32)

/-- The new residual's block. -/
def nrB (x0 x1 : Vec Ideal S32x36864 .bf16) : Vec Ideal S32x36864 .bf16 := fun y => x0 y + x1 y
/-- A row of the new residual's block. -/
def rowB (x0 x1 : Vec Ideal S32x36864 .bf16) (ρ : Fin 32) (d : Fin 36864) : EReal := x0 (ix2 ρ d) + x1 (ix2 ρ d)
/-- The weights as a row. -/
def gRow (G7 : Vec Ideal S1x36864 .f32) (d : Fin 36864) : EReal := G7 (ix2 0 d)

/-- The state of the first loop after `n` trips. -/
abbrev S1 (n : ℕ) := st_k0_t1 (F := Ideal) 𝒱 c bd i arg1 harg1 arg2 harg2 arg3 harg3 arg4 harg4 arg5 harg5 arg6 harg6 arg7 harg7 (harg1.unread x0) (harg2.unread x1) k0_pay47 n

/-- The new residual's tile, at an entry. -/
theorem nrR_apply (k : Fin 18) (j : Fin 16) (x : S32x128.Idx) :
    nrR arg1 arg2 (harg1.unread x0) (harg2.unread x1) k j x = nrB x0 x1 (tix k j x) := by
  unfold nrR; rw [read_tile arg1 harg1 x0 k j, read_tile arg2 harg2 x1 k j, pay48_eq]; rfl

/-- Every store of the first loop is its rectangle of the new residual's block. -/
theorem S1_pieces (n : ℕ) (hn : n ≤ 18) :
    ∀ p ∈ (S1 𝒱 c bd i arg1 harg1 arg2 harg2 arg3 harg3 arg4 harg4 arg5 harg5 arg6 harg6 arg7 harg7 x0 x1 n).2, ∀ x : p.1.shape.Idx, p.2 x = nrB x0 x1 (p.1.emb x) := by
  induction n with
  | zero => intro p hp; exact absurd hp (List.not_mem_nil)
  | succ n ih =>
    obtain ⟨k, rfl⟩ : ∃ k : Fin 18, k.val = n := ⟨⟨n, hn⟩, rfl⟩
    unfold S1
    rw [st_k0_t1_succ (F := Ideal) 𝒱 c bd i arg1 harg1 arg2 harg2 arg3 harg3 arg4 harg4 arg5 harg5 arg6 harg6 arg7 harg7 (harg1.unread x0) (harg2.unread x1) k0_pay47 k]
    intro p hp
    rcases List.mem_append.mp hp with h | h
    · replace h := (congrArg (p ∈ ·) (tripL_t1 𝒱 c bd i arg1 harg1 arg2 harg2 arg3 harg3 arg4 harg4 arg5 harg5 arg6 harg6 arg7 harg7 (harg1.unread x0) (harg2.unread x1) k _)).mp h
      obtain ⟨j, -, rfl⟩ := List.mem_map.mp h
      intro x
      show nrR arg1 arg2 (harg1.unread x0) (harg2.unread x1) _ j x = nrB x0 x1 ((tR _ j).idx x)
      rw [tR_idx k j x]
      exact nrR_apply _ _ _ _ _ _ _ _ _
    · exact ih (by omega) p h

/-- The first loop's lane sums. -/
theorem S1_sum (x : S32x128.Idx) :
    (S1 𝒱 c bd i arg1 harg1 arg2 harg2 arg3 harg3 arg4 harg4 arg5 harg5 arg6 harg6 arg7 harg7 x0 x1 18).1 x = ∑ k : Fin 18, ∑ j : Fin 16, rowB x0 x1 (x 0) (Norm.col k j (x 1)) * rowB x0 x1 (x 0) (Norm.col k j (x 1)) := by
  refine Norm.acc_sum 18 (fun n => (S1 𝒱 c bd i arg1 harg1 arg2 harg2 arg3 harg3 arg4 harg4 arg5 harg5 arg6 harg6 arg7 harg7 x0 x1 n).1 x) _ ?_ fun k => ?_
  · exact Ideal.ofBits_zero_f32
  · show (S1 𝒱 c bd i arg1 harg1 arg2 harg2 arg3 harg3 arg4 harg4 arg5 harg5 arg6 harg6 arg7 harg7 x0 x1 (k.val + 1)).1 x = (S1 𝒱 c bd i arg1 harg1 arg2 harg2 arg3 harg3 arg4 harg4 arg5 harg5 arg6 harg6 arg7 harg7 x0 x1 k.val).1 x + _
    unfold S1
    rw [st_k0_t1_succ (F := Ideal) 𝒱 c bd i arg1 harg1 arg2 harg2 arg3 harg3 arg4 harg4 arg5 harg5 arg6 harg6 arg7 harg7 (harg1.unread x0) (harg2.unread x1) k0_pay47 k]
    refine (tripR_t1 𝒱 c bd i arg1 harg1 arg2 harg2 arg3 harg3 arg4 harg4 arg5 harg5 arg6 harg6 arg7 harg7 (harg1.unread x0) (harg2.unread x1) k _ x).trans ?_
    rw [Norm.add16_eq]
    refine congrArg _ (Finset.sum_congr rfl fun j _ => ?_)
    rw [nrR_apply]; rfl

/-- The inverse root each lane of a row holds. -/
theorem inv_eq (x : S32x128.Idx) : k0_pay52 (S1 𝒱 c bd i arg1 harg1 arg2 harg2 arg3 harg3 arg4 harg4 arg5 harg5 arg6 harg6 arg7 harg7 x0 x1 18).1 x = Norm.inv (rowB x0 x1 (x 0)) := by
  rw [pay52_apply]
  unfold Norm.inv Norm.msq
  rw [← Norm.sum_col]
  refine congrArg (fun e => Ideal.rsqrt (e * _ + _)) (Finset.sum_congr rfl fun l _ => ?_)
  exact S1_sum 𝒱 c bd i arg1 harg1 arg2 harg2 arg3 harg3 arg4 harg4 arg5 harg5 arg6 harg6 arg7 harg7 x0 x1 (ix2 (x 0) l)

variable (v5 : FVec Ideal S32x128 .f32) (hv5 : ∀ x, k0_pay52 v5 x = Norm.inv (rowB x0 x1 (x 0)))
/-- The state of the second loop after `n` trips. -/
abbrev S2 (n : ℕ) := st_k0_t2 (F := Ideal) 𝒱 c bd i arg1 harg1 arg2 harg2 arg3 harg3 arg4 harg4 arg5 harg5 arg6 harg6 arg7 harg7 v5 (harg4.unread (nrB x0 x1)) (harg7.unread G7) k0_pay47 n

include hv5 in
theorem hR_apply (k : Fin 18) (j : Fin 16) (x : S32x128.Idx) :
    hR arg4 arg7 (harg4.unread (nrB x0 x1)) (harg7.unread G7) (k0_pay52 v5) k j x
      = Norm.yv (rowB x0 x1 (x 0)) (gRow G7) (Norm.col k j (x 1)) := by
  unfold hR; rw [read_tile arg4 harg4, read_gtile arg7 harg7, hT_apply, hv5]; rfl

include hv5 in
/-- The second loop's lane maxima. -/
theorem S2_max (x : S32x128.Idx) (z : EReal) :
    S2 𝒱 c bd i arg1 harg1 arg2 harg2 arg3 harg3 arg4 harg4 arg5 harg5 arg6 harg6 arg7 harg7 x0 x1 G7 v5 18 x ≤ z ↔ 0 ≤ z ∧ ∀ k j, Norm.mag (Norm.yv (rowB x0 x1 (x 0)) (gRow G7) (Norm.col k j (x 1))) ≤ z := by
  refine (Norm.acc_max 18 (fun n => S2 𝒱 c bd i arg1 harg1 arg2 harg2 arg3 harg3 arg4 harg4 arg5 harg5 arg6 harg6 arg7 harg7 x0 x1 G7 v5 n x)
    (fun k => Finset.univ.sup fun j => Norm.mag (Norm.yv (rowB x0 x1 (x 0)) (gRow G7) (Norm.col k j (x 1)))) ?_ (fun k => ?_) z).trans ?_
  · exact Ideal.ofBits_zero_f32
  · show S2 𝒱 c bd i arg1 harg1 arg2 harg2 arg3 harg3 arg4 harg4 arg5 harg5 arg6 harg6 arg7 harg7 x0 x1 G7 v5 (k.val + 1) x = max (S2 𝒱 c bd i arg1 harg1 arg2 harg2 arg3 harg3 arg4 harg4 arg5 harg5 arg6 harg6 arg7 harg7 x0 x1 G7 v5 k.val x) _
    unfold S2
    rw [st_k0_t2_succ (F := Ideal) 𝒱 c bd i arg1 harg1 arg2 harg2 arg3 harg3 arg4 harg4 arg5 harg5 arg6 harg6 arg7 harg7 v5 (harg4.unread (nrB x0 x1)) (harg7.unread G7) k0_pay47 k]
    refine (tripR_t2 𝒱 c bd i arg1 harg1 arg2 harg2 arg3 harg3 arg4 harg4 arg5 harg5 arg6 harg6 arg7 harg7 (harg4.unread (nrB x0 x1)) (harg7.unread G7) v5 k _ x).trans ?_
    rw [Norm.max16_eq]
    refine congrArg _ (Finset.sup_congr rfl fun j _ => ?_)
    rw [hR_apply _ _ _ _ _ _ _ v5 hv5]
  · refine and_congr_right fun _ => forall_congr' fun k => ?_
    simp [Finset.sup_le_iff]

include hv5 in
/-- The largest magnitude of a row over the largest code, as each lane holds it. -/
theorem zv_eq (x : S32x128.Idx) : k0_pay54 (S2 𝒱 c bd i arg1 harg1 arg2 harg2 arg3 harg3 arg4 harg4 arg5 harg5 arg6 harg6 arg7 harg7 x0 x1 G7 v5 18) x = Norm.zv (rowB x0 x1 (x 0)) (gRow G7) := by
  rw [pay54_apply]
  unfold Norm.zv
  refine congrArg (· * _) (eq_of_forall_ge_iff fun z => ?_)
  unfold lmax
  rw [Finset.sup_le_iff, Norm.amax_le_iff]
  constructor
  · intro h
    refine (Norm.forall_col fun d => Norm.mag (Norm.yv (rowB x0 x1 (x 0)) (gRow G7) d) ≤ z).mp fun l k j => ?_
    exact ((S2_max 𝒱 c bd i arg1 harg1 arg2 harg2 arg3 harg3 arg4 harg4 arg5 harg5 arg6 harg6 arg7 harg7 x0 x1 G7 v5 hv5 (ix2 (x 0) l) z).mp (h l (Finset.mem_univ _))).2 k j
  · intro h l _
    exact (S2_max 𝒱 c bd i arg1 harg1 arg2 harg2 arg3 harg3 arg4 harg4 arg5 harg5 arg6 harg6 arg7 harg7 x0 x1 G7 v5 hv5 (ix2 (x 0) l) z).mpr ⟨(Norm.mag_nonneg _).trans (h 0), fun k j => h _⟩

variable (a0 : BitVec 32) (v14 v22 : FVec Ideal S32x128 .f32) (v24 : IVec S32x128 1) (v79 v80 : IVec S32x128 32)
  (h14 : v14 = k0_pay52 v5)

/-- The codes' block. -/
def cdB (x0 x1 : Vec Ideal S32x36864 .bf16) (G7 : Vec Ideal S1x36864 .f32) : Vec Ideal S32x36864 .fp8e4m3 := fun y =>
  Norm.code (Norm.yv (rowB x0 x1 (y 0)) (gRow G7) (y 1)) (Norm.kinv (Norm.zv (rowB x0 x1 (y 0)) (gRow G7)))

include hv5 h14 in
/-- Every store of the third loop is its rectangle of the codes' block. -/
theorem P3_pieces (h62 : ∀ x, k0_pay62 v22 v24 v79 v80 x = Norm.kinv (Norm.zv (rowB x0 x1 (x 0)) (gRow G7))) (n : ℕ) (hn : n ≤ 18) :
    ∀ p ∈ pb_k0_t3 (F := Ideal) 𝒱 c bd i arg1 harg1 arg2 harg2 arg3 harg3 arg4 harg4 arg5 harg5 arg6 harg6 arg7 harg7 a0 v14 v22 v24 v79 v80 (harg4.unread (nrB x0 x1)) (harg7.unread G7) n,
      ∀ x : p.1.shape.Idx, p.2 x = cdB x0 x1 G7 (p.1.emb x) := by
  induction n with
  | zero => intro p hp; exact absurd hp (List.not_mem_nil)
  | succ n ih =>
    obtain ⟨k, rfl⟩ : ∃ k : Fin 18, k.val = n := ⟨⟨n, hn⟩, rfl⟩
    rw [pb_k0_t3_succ (F := Ideal) 𝒱 c bd i arg1 harg1 arg2 harg2 arg3 harg3 arg4 harg4 arg5 harg5 arg6 harg6 arg7 harg7 a0 v14 v22 v24 v79 v80 (harg4.unread (nrB x0 x1)) (harg7.unread G7) k]
    intro p hp
    rcases List.mem_append.mp hp with h | h
    · replace h := (congrArg (p ∈ ·) (tripL_t3 𝒱 c bd i arg1 harg1 arg2 harg2 arg3 harg3 arg4 harg4 arg5 harg5 arg6 harg6 arg7 harg7 (harg4.unread (nrB x0 x1)) (harg7.unread G7) a0 v14 v22 v24 v79 v80 k)).mp h
      obtain ⟨j, -, rfl⟩ := List.mem_map.mp h
      intro x
      show Norm.code (hR arg4 arg7 (harg4.unread (nrB x0 x1)) (harg7.unread G7) v14 _ j x) (k0_pay62 v22 v24 v79 v80 x) = cdB x0 x1 G7 ((tR _ j).idx x)
      rw [tR_idx k j x, h62, h14]
      rw [hR_apply _ _ _ _ _ _ _ v5 hv5 k j x]
      rfl
    · exact ih (by omega) p h

end Cert.KernelIdeal.Val

end
-- ==== Proof.KernelIdeal.RunA.lean ====
/- The first grid step: the whole body runs, and the pieces it leaves in each output's buffer. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) :
    Σ' (L3 : List (View.Piece (Elt F) S32x36864 .bf16)), Σ' (L4 : List (View.Piece (Elt F) S32x36864 .fp8e4m3)), Σ' (L5 : List (View.Piece (Elt F) S24x128 .f32)), { LS0 : List (View.Piece (Elt F) S1x36864 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0_add_rmsnorm_fp8 i arg1 harg1 arg2 harg2 arg3 harg3 arg4 harg4 arg5 harg5 arg6 harg6 arg7 harg7) K } := by
  refine ⟨?_, ?_, ?_, ?_, fun E K => ?run⟩
  case run =>
    simp only [cc0_add_rmsnorm_fp8_eq_skeleton]; unfold cc0_add_rmsnorm_fp8_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    sl_unfold_words
    simp only [writes_t1 c i arg1 harg1 arg2 harg2 arg3 harg3 arg4 harg4 arg5 harg5 arg6 harg6 arg7 harg7 x0 x1]
    isplitl [H4]; · iexists _; iexact H4
    isplitl [H5]; · iexists _; iexact H5
    iexists _; iexact HS0

end Cert.KernelIdeal.Gen

end
-- ==== Proof.KernelIdeal.RunB.lean ====
/- Every later grid step: the whole body runs over the scales and the copy of gamma that the step before left. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 95: 95 of 96), WITH the
    proof that on whole staging memrefs — the inputs' at their contents, the outputs it reads before covering (5) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) :
    Σ' (L3 : List (View.Piece (Elt F) S32x36864 .bf16)), Σ' (L4 : List (View.Piece (Elt F) S32x36864 .fp8e4m3)), Σ' (L5 : List (View.Piece (Elt F) S24x128 .f32)), { LS0 : List (View.Piece (Elt F) S1x36864 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xo5 ∗ owns (c : Thread nD τ) arg7 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (arg6.view.loc (c : Thread nD τ) ↦[arg6.view.set]{fullShare} arg6.view.writes (Elt F) (harg6.unread xo5) L5) ∗ owns (c : Thread nD τ) arg7 fullShare xs0) -∗ K ⟨⟩))
          ⊢ wp frame (wpE (defs₀ (F := F)) Variants.none c none) E (cc0_add_rmsnorm_fp8 i arg1 harg1 arg2 harg2 arg3 harg3 arg4 harg4 arg5 harg5 arg6 harg6 arg7 harg7) K } := by
  refine ⟨?_, ?_, ?_, [], fun E K => ?run⟩
  case run =>
    simp only [cc0_add_rmsnorm_fp8_eq_skeleton]; unfold cc0_add_rmsnorm_fp8_skel
    simp only [k0_part15_eq_skeleton, k0_part16_eq_skeleton, k0_part17_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%f5, %hf5, H5⟩, ⟨%fs0, %hfs0, HS0⟩, Hk⟩
    obtain rfl := harg1.eq_unread hf0; obtain rfl := harg2.eq_unread hf1; obtain rfl := harg3.eq_unread hf2; obtain rfl := harg6.eq_unread hf5; obtain rfl := harg7.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    sl_unfold_words
    simp only [writes_t1 c i arg1 harg1 arg2 harg2 arg3 harg3 arg4 harg4 arg5 harg5 arg6 harg6 arg7 harg7 x0 x1]
    isplitl [H4]; · iexists _; iexact H4
    isplitl [H5]; · iexact H5
    iexists _; isplitr; · ipureintro; exact harg7.read_unread _
    iexact HS0

end Cert.KernelIdeal.Gen

end
-- ==== Proof.KernelIdeal.Frame.lean ====
/- The whole run: what the outputs hold after each grid step, the obligation of the pipeline for the body, and
   the frame (the run ends, the arguments are as they were, every semaphore is at zero). -/
module

public import proofs.«01_k».proof.Proof.KernelIdeal.RunB
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 3 tile its block (288 stores of `S32x128`, checked by the kernel's evaluation: Lib/Ring.lean `Piece.tiledL`, linear in the pieces, through a loop's `@[irreducible]` trip theorem too), so they cover it. -/
theorem cover0_A_3 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) (y : S32x36864.Idx) :
    ∃ pc ∈ (kernelRun0_A c i arg1 harg1 arg2 harg2 arg3 harg3 arg4 harg4 arg5 harg5 arg6 harg6 arg7 harg7 hc0 x0 x1 x2).1, y ∈ pc.1.set :=
  View.cover_of_tiledL (kernelRun0_A c i arg1 harg1 arg2 harg2 arg3 harg3 arg4 harg4 arg5 harg5 arg6 harg6 arg7 harg7 hc0 x0 x1 x2).1 S32x128.size (by sl_kernel_rfl) y

/-- What case A leaves in output 3's staging buffer: its pieces read back over junk. -/
def out0_A_3 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) : Vec F S32x36864 .bf16 :=
  VO0_3.read (Elt F) (VO0_3.writes (Elt F) VO0_3.junk (kernelRun0_A c i arg1 harg1 arg2 harg2 arg3 harg3 arg4 harg4 arg5 harg5 arg6 harg6 arg7 harg7 hc0 x0 x1 x2).1)

/-- Case A's pieces for output 4 tile its block (288 stores of `S32x128`, checked by the kernel's evaluation: Lib/Ring.lean `Piece.tiledL`, linear in the pieces, through a loop's `@[irreducible]` trip theorem too), so they cover it. -/
theorem cover0_A_4 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) (y : S32x36864.Idx) :
    ∃ pc ∈ (kernelRun0_A c i arg1 harg1 arg2 harg2 arg3 harg3 arg4 harg4 arg5 harg5 arg6 harg6 arg7 harg7 hc0 x0 x1 x2).2.1, y ∈ pc.1.set :=
  View.cover_of_tiledL (kernelRun0_A c i arg1 harg1 arg2 harg2 arg3 harg3 arg4 harg4 arg5 harg5 arg6 harg6 arg7 harg7 hc0 x0 x1 x2).2.1 S32x128.size (by sl_kernel_rfl) y

/-- What case A leaves in output 4's staging buffer: its pieces read back over junk. -/
def out0_A_4 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) : Vec F S32x36864 .fp8e4m3 :=
  VO0_4.read (Elt F) (VO0_4.writes (Elt F) VO0_4.junk (kernelRun0_A c i arg1 harg1 arg2 harg2 arg3 harg3 arg4 harg4 arg5 harg5 arg6 harg6 arg7 harg7 hc0 x0 x1 x2).2.1)

/-- Case A's pieces for output 5 include stores at SYMBOLIC offsets (a loaded word, the grid coordinates), which no evaluation decides; one explicit piece is a literal store of the WHOLE block (found by walking the list as the run left it, that piece checked by the kernel's evaluation of it alone: Lib/Ring.lean `sl_whole_mem`), so they cover it whatever the others are. -/
theorem cover0_A_5 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) (y : S24x128.Idx) :
    ∃ pc ∈ (kernelRun0_A c i arg1 harg1 arg2 harg2 arg3 harg3 arg4 harg4 arg5 harg5 arg6 harg6 arg7 harg7 hc0 x0 x1 x2).2.2.1, y ∈ pc.1.set :=
  View.cover_of_wholeMem (kernelRun0_A c i arg1 harg1 arg2 harg2 arg3 harg3 arg4 harg4 arg5 harg5 arg6 harg6 arg7 harg7 hc0 x0 x1 x2).2.2.1 (by sl_whole_mem) y

/-- What case A leaves in output 5's staging buffer: its pieces read back over junk. -/
def out0_A_5 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) : Vec F S24x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2).2.2.1)

/-- Case A's pieces for scratch `arg7`, which the kernel carries between points, cover it: 1 piece of `S1x36864` tiling it (Lib/Ring.lean `Piece.tiledL`). -/
theorem scover0_A_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) (y : S1x36864.Idx) :
    ∃ pc ∈ (kernelRun0_A c i arg1 harg1 arg2 harg2 arg3 harg3 arg4 harg4 arg5 harg5 arg6 harg6 arg7 harg7 hc0 x0 x1 x2).2.2.2.1, y ∈ pc.1.set :=
  View.cover_of_tiledL (kernelRun0_A c i arg1 harg1 arg2 harg2 arg3 harg3 arg4 harg4 arg5 harg5 arg6 harg6 arg7 harg7 hc0 x0 x1 x2).2.2.2.1 S1x36864.size (by sl_kernel_rfl) y

/-- What case A leaves in scratch `arg7`: its pieces read back over junk. -/
def sout0_A_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : cond0_0 i)
    (x0 : Vec F S32x36864 .bf16) (x1 : Vec F S32x36864 .bf16) (x2 : Vec F S1x36864 .bf16) : Vec F S1x36864 .f32 :=
  VS0_0.read (Elt F) (VS0_0.writes (Elt F) VS0_0.junk (kernelRun0_A c i arg1 harg1 arg2 harg2 arg3 harg3 arg4 harg4 arg5 harg5 arg6 harg6 arg7 harg7 hc0 x0 x1 x2).2.2.2.1)

/-- Case B's pieces for output 3 tile its block (288 stores of `S32x128`, checked by the kernel's evaluation: Lib/Ring.lean `Piece.tiledL`, linear in the pieces, through a loop's `@[irreducible]` trip theorem too), so they cover it. -/
theorem cover0_B_3 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) (y : S32x36864.Idx) :
    ∃ pc ∈ (kernelRun0_B c i arg1 harg1 arg2 harg2 arg3 harg3 arg4 harg4 arg5 harg5 arg6 harg6 arg7 harg7 hc0 x0 x1 x2 xo5 xs0).1, y ∈ pc.1.set :=
  View.cover_of_tiledL (kernelRun0_B c i arg1 harg1 arg2 harg2 arg3 harg3 arg4 harg4 arg5 harg5 arg6 harg6 arg7 harg7 hc0 x0 x1 x2 xo5 xs0).1 S32x128.size (by sl_kernel_rfl) y

/-- What case B leaves in output 3's staging buffer: its pieces read back over junk. -/
def out0_B_3 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) : Vec F S32x36864 .bf16 :=
  VO0_3.read (Elt F) (VO0_3.writes (Elt F) VO0_3.junk (kernelRun0_B c i arg1 harg1 arg2 harg2 arg3 harg3 arg4 harg4 arg5 harg5 arg6 harg6 arg7 harg7 hc0 x0 x1 x2 xo5 xs0).1)

/-- Case B's pieces for output 4 tile its block (288 stores of `S32x128`, checked by the kernel's evaluation: Lib/Ring.lean `Piece.tiledL`, linear in the pieces, through a loop's `@[irreducible]` trip theorem too), so they cover it. -/
theorem cover0_B_4 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) (y : S32x36864.Idx) :
    ∃ pc ∈ (kernelRun0_B c i arg1 harg1 arg2 harg2 arg3 harg3 arg4 harg4 arg5 harg5 arg6 harg6 arg7 harg7 hc0 x0 x1 x2 xo5 xs0).2.1, y ∈ pc.1.set :=
  View.cover_of_tiledL (kernelRun0_B c i arg1 harg1 arg2 harg2 arg3 harg3 arg4 harg4 arg5 harg5 arg6 harg6 arg7 harg7 hc0 x0 x1 x2 xo5 xs0).2.1 S32x128.size (by sl_kernel_rfl) y

/-- What case B leaves in output 4's staging buffer: its pieces read back over junk. -/
def out0_B_4 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) : Vec F S32x36864 .fp8e4m3 :=
  VO0_4.read (Elt F) (VO0_4.writes (Elt F) VO0_4.junk (kernelRun0_B c i arg1 harg1 arg2 harg2 arg3 harg3 arg4 harg4 arg5 harg5 arg6 harg6 arg7 harg7 hc0 x0 x1 x2 xo5 xs0).2.1)

/-- What case B leaves in output 5's staging buffer: its stores read back over what the point before left there (they do not cover the block). -/
def out0_B_5 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) : Vec F S24x128 .f32 :=
  arg6.view.read (Elt F) (arg6.view.writes (Elt F) (harg6.unread xo5) (kernelRun0_B c i arg1 harg1 arg2 harg2 arg3 harg3 arg4 harg4 arg5 harg5 arg6 harg6 arg7 harg7 hc0 x0 x1 x2 xo5 xs0).2.2.1)

/-- Case B stores nothing into scratch `arg7`: it holds what the point before left. -/
def sout0_B_0 (c : Dev nD) (i : grid0.Coords) (arg1 : Memref sig .tc .vmem S32x36864 .bf16) (harg1 : arg1.IsWhole) (arg2 : Memref sig .tc .vmem S32x36864 .bf16) (harg2 : arg2.IsWhole) (arg3 : Memref sig .tc .vmem S1x36864 .bf16) (harg3 : arg3.IsWhole) (arg4 : Memref sig .tc .vmem S32x36864 .bf16) (harg4 : arg4.IsWhole) (arg5 : Memref sig .tc .vmem S32x36864 .fp8e4m3) (harg5 : arg5.IsWhole) (arg6 : Memref sig .tc .vmem S24x128 .f32) (harg6 : arg6.IsWhole) (arg7 : Memref sig .tc .vmem S1x36864 .f32) (harg7 : arg7.IsWhole) (hc0 : ¬cond0_0 i)
    (x0 : Vec F S32x36864 .bf16) (x1 : Vec F S32x36864 .bf16) (x2 : Vec F S1x36864 .bf16) (xo5 : Vec F S24x128 .f32) (xs0 : Vec F S1x36864 .f32) : Vec F S1x36864 .f32 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S32x36864 .bf16 × Vec F S32x36864 .fp8e4m3 × Vec F S24x128 .f32 × Vec F S1x36864 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 96 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 96 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 96 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

/-- Before the first step the scratch is only owned. -/
theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
/-- After a step the residual's buffer holds its block. -/
theorem after0_1 (c : Dev nD) (t : Fin cfg0.N) : (dats m 0 c).after 1 t = iblk m c 1 t := by dsimp only [dats]
/-- After a step gamma's buffer holds its block. -/
theorem after0_2 (c : Dev nD) (t : Fin cfg0.N) : (dats m 0 c).after 2 t = iblk m c 2 t := by dsimp only [dats]
/-- After a step the new residual's buffer holds what the step left. -/
theorem after0_3 (c : Dev nD) (t : Fin cfg0.N) : (dats m 0 c).after 3 t = (outsAt0 m c t.val t.isLt).1 := by dsimp only [dats]
/-- After a step the codes' buffer holds what the step left. -/
theorem after0_4 (c : Dev nD) (t : Fin cfg0.N) : (dats m 0 c).after 4 t = (outsAt0 m c t.val t.isLt).2.1 := by dsimp only [dats]
/-- After a step the scales' buffer holds what the step left. -/
theorem after0_5 (c : Dev nD) (t : Fin cfg0.N) : (dats m 0 c).after 5 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
/-- Before a step the residual's buffer holds its block. -/
theorem before0_1 (c : Dev nD) (t : Fin cfg0.N) (d) : (dats m 0 c).before 1 t d = iblk m c 1 t :=
  before0_1_of m (dats m 0 c) (A_eq m c 1) (after0_1 m c) t d
/-- Before a step gamma's buffer holds its block. -/
theorem before0_2 (c : Dev nD) (t : Fin cfg0.N) (d) : (dats m 0 c).before 2 t d = iblk m c 2 t :=
  before0_2_of m (dats m 0 c) (A_eq m c 2) (after0_2 m c) t d
/-- At a point of case B output 5's current staging buffer holds what the body left at the point before: the point is
    not the first, the buffer was not written back between (`flush0_5`), the window is live and uncut (Lib/Pipeline/Frame.lean
    `Dat.before_out_kept`). -/
theorem before0_5_B (c : Dev nD) (t : Fin cfg0.N) (h0 : ¬t.val % 96 = 0) (d) :
    (dats m 0 c).before 5 t d = (outsAt0 m c (t.val - 1) (Nat.lt_of_le_of_lt (Nat.sub_le _ _) t.isLt)).2.2.1 := by
  have hN : t.val < 96 := lt_of_lt_of_eq t.isLt (show cfg0.N = 96 from N_0)
  rw [Dat.before_out_kept _ 5 rfl t (by omega) (Bool.eq_false_iff.mpr fun h => by have := (flush0_5 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 8000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    after0_0, after0_1, after0_2, after0_3, after0_4, after0_5]
  rw [show (dats m 0 c).Φ t.succ = PhiS m c (t.val + 1) t.isLt from rfl, PhiS_succ]
  have hN : t.val < 96 := lt_of_lt_of_eq t.isLt (show cfg0.N = 96 from N_0)
  by_cases h0 : t.val % 96 = 0
  · by_cases hz : t.val = 0
    · rw [PhiS_castSucc m c t, PhiS_zero m c _ _ hz, PhiA0_eq]
      rw [outsAt0_A m c t h0]
      unfold out0_A_3 out0_A_4 out0_A_5 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ ((hcond0_0 t).mpr h0) (iblk m c 0 t) (iblk m c 1 t) (iblk m c 2 t)).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      iintro ⟨H0, H1, H2, ⟨%e3, H3⟩, ⟨%e4, H4⟩, ⟨%e5, H5⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_A_3 c _ _ _ _ _ _ _ _ _ _ _ _ _ _ _ _ _ _ _)
      isplitl [H4]
      · unfold owns; iexists _; isplitr
        swap; · iexact H4
        ipureintro; exact View.read_writes_of_cover _ _ _ _ _ (cover0_A_4 c _ _ _ _ _ _ _ _ _ _ _ _ _ _ _ _ _ _ _)
      unfold owns; iexists _; isplitr
      swap; · iexact H5
      ipureintro; exact View.read_writes_of_cover _ _ _ _ _ (cover0_A_5 c _ _ _ _ _ _ _ _ _ _ _ _ _ _ _ _ _ _ _)
    · exfalso; have hN : t.val < 96 := lt_of_lt_of_eq t.isLt (show cfg0.N = 96 from N_0); omega
  · by_cases hz : t.val = 0
    · exfalso; have hN : t.val < 96 := lt_of_lt_of_eq t.isLt (show cfg0.N = 96 from N_0); omega
    · rw [PhiS_castSucc m c t, PhiS_pos m c _ _ hz]
      rw [outsAt0_B m c t h0]
      simp only [before0_5_B m c t h0]
      unfold out0_B_3 out0_B_4 out0_B_5 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ (fun h => h0 ((hcond0_0 t).mp h)) (iblk m c 0 t) (iblk m c 1 t) (iblk m c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [H5]; · iexact H5
      isplitl [HS0]; · iexact HS0
      iintro ⟨H0, H1, H2, ⟨%e3, H3⟩, ⟨%e4, H4⟩, H5, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover0_B_3 c _ _ _ _ _ _ _ _ _ _ _ _ _ _ _ _ _ _ _ _ _)
      isplitl [H4]
      · unfold owns; iexists _; isplitr
        swap; · iexact H4
        ipureintro; exact View.read_writes_of_cover _ _ _ _ _ (cover0_B_4 c _ _ _ _ _ _ _ _ _ _ _ _ _ _ _ _ _ _ _ _ _)
      unfold owns; iexists _; isplitr
      swap; · iexact H5
      ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 96 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Gen

end
-- ==== Proof.KernelIdeal.Step.lean ====
/- What a grid step leaves in each output's buffer and in the weights' scratch, in both cases. -/
module

public import proofs.«01_k».proof.Proof.KernelIdeal.Block
public import proofs.«01_k».proof.Proof.KernelIdeal.Frame
public import Idealize.ShloMosaic.Lib.WritesUnit

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Tactic

variable (c : Dev nD) (i : grid0.Coords)
  (arg1 : Memref sig .tc .vmem S32x36864 .bf16) (harg1 : arg1.IsWhole)
  (arg2 : Memref sig .tc .vmem S32x36864 .bf16) (harg2 : arg2.IsWhole)
  (arg3 : Memref sig .tc .vmem S1x36864 .bf16) (harg3 : arg3.IsWhole)
  (arg4 : Memref sig .tc .vmem S32x36864 .bf16) (harg4 : arg4.IsWhole)
  (arg5 : Memref sig .tc .vmem S32x36864 .fp8e4m3) (harg5 : arg5.IsWhole)
  (arg6 : Memref sig .tc .vmem S24x128 .f32) (harg6 : arg6.IsWhole)
  (arg7 : Memref sig .tc .vmem S1x36864 .f32) (harg7 : arg7.IsWhole)
  (x0 x1 : Vec Ideal S32x36864 .bf16) (x2 : Vec Ideal S1x36864 .bf16) (xo5 : Vec Ideal S24x128 .f32) (xs0 : Vec Ideal S1x36864 .f32)

/-- The weights' scratch as the first step writes it. -/
def gB (x2 : Vec Ideal S1x36864 .bf16) : Vec Ideal S1x36864 .f32 := fun y => x2 y

/-- The copy of gamma that the first step makes. -/
theorem pay45_eq (x2 : Vec Ideal S1x36864 .bf16) : k0_pay45 (F := Ideal) x2 = gB x2 := by
  unfold k0_pay45; dsimp only; rw [shapeCast_self, shapeCast_self]; rfl

/-- The row of scales of a step: each lane its token's. -/
def rowAdd (x0 x1 : Vec Ideal S32x36864 .bf16) (G7 : Vec Ideal S1x36864 .f32) (n : ℕ) (l : Fin 128) : EReal :=
  ∑ t : Fin 32, if putsAt n t l then Norm.kscale (Norm.zv (rowB x0 x1 t) (gRow G7)) else 0
/-- The scales after step `n`, from those before it. -/
def updB (x0 x1 : Vec Ideal S32x36864 .bf16) (G7 : Vec Ideal S1x36864 .f32) (n : ℕ) (prev : Vec Ideal S24x128 .f32) : Vec Ideal S24x128 .f32 :=
  fun y => if (y 0).val = n / 4 then prev y + rowAdd x0 x1 G7 n (y 1) else prev y

/-! ## The run's words -/
section
variable (X4 : BufTy.Contents (Elt Ideal) arg4.view.ty) (X7 : BufTy.Contents (Elt Ideal) arg7.view.ty)
/-- The first loop's lane sums. -/
abbrev w5 : FVec Ideal S32x128 .f32 := (st_k0_t1 (F := Ideal) Variants.none c none i arg1 harg1 arg2 harg2 arg3 harg3 arg4 harg4 arg5 harg5 arg6 harg6 arg7 harg7 (harg1.unread x0) (harg2.unread x1) k0_pay47 trips1).1
/-- The second loop's lane maxima. -/
abbrev w16 : FVec Ideal S32x128 .f32 := st_k0_t2 (F := Ideal) Variants.none c none i arg1 harg1 arg2 harg2 arg3 harg3 arg4 harg4 arg5 harg5 arg6 harg6 arg7 harg7 (w5 c i arg1 harg1 arg2 harg2 arg3 harg3 arg4 harg4 arg5 harg5 arg6 harg6 arg7 harg7 x0 x1) X4 X7 k0_pay47 trips2
/-- The scales as the lanes hold them. -/
abbrev wsc : FVec Ideal S32x128 .f32 :=
  k0_pay61 (k0_pay54 (w16 c i arg1 harg1 arg2 harg2 arg3 harg3 arg4 harg4 arg5 harg5 arg6 harg6 arg7 harg7 x0 x1 X4 X7)) (k0_pay55 (w16 c i arg1 harg1 arg2 harg2 arg3 harg3 arg4 harg4 arg5 harg5 arg6 harg6 arg7 harg7 x0 x1 X4 X7)) (k0_pay58 (k0_pay54 (w16 c i arg1 harg1 arg2 harg2 arg3 harg3 arg4 harg4 arg5 harg5 arg6 harg6 arg7 harg7 x0 x1 X4 X7)) (k0_pay56 (w16 c i arg1 harg1 arg2 harg2 arg3 harg3 arg4 harg4 arg5 harg5 arg6 harg6 arg7 harg7 x0 x1 X4 X7)) k0_pay57) k0_pay59
/-- The third loop's stores. -/
abbrev wP3 : List (View.Piece (Elt Ideal) S32x36864 .fp8e4m3) :=
  pb_k0_t3 (F := Ideal) Variants.none c none i arg1 harg1 arg2 harg2 arg3 harg3 arg4 harg4 arg5 harg5 arg6 harg6 arg7 harg7 (BitVec.ofNat 32 (i 0).val) (k0_pay52 (w5 c i arg1 harg1 arg2 harg2 arg3 harg3 arg4 harg4 arg5 harg5 arg6 harg6 arg7 harg7 x0 x1)) (k0_pay54 (w16 c i arg1 harg1 arg2 harg2 arg3 harg3 arg4 harg4 arg5 harg5 arg6 harg6 arg7 harg7 x0 x1 X4 X7)) (k0_pay55 (w16 c i arg1 harg1 arg2 harg2 arg3 harg3 arg4 harg4 arg5 harg5 arg6 harg6 arg7 harg7 x0 x1 X4 X7))
    (k0_pay58 (k0_pay54 (w16 c i arg1 harg1 arg2 harg2 arg3 harg3 arg4 harg4 arg5 harg5 arg6 harg6 arg7 harg7 x0 x1 X4 X7)) (k0_pay56 (w16 c i arg1 harg1 arg2 harg2 arg3 harg3 arg4 harg4 arg5 harg5 arg6 harg6 arg7 harg7 x0 x1 X4 X7)) k0_pay57) k0_pay59 X4 X7 trips3
/-- The row the step updates, as a rectangle of the scales. -/
abbrev rR : Rect S24x128 := Rect.unit (s := S24x128) (k0_off6 i) S1x128.size (k0_off6_inb i)
/-- The store into the scales. -/
abbrev wP5 (X6 : BufTy.Contents (Elt Ideal) arg6.view.ty) : View.Piece (Elt Ideal) S24x128 .f32 :=
  ⟨rR i, k0_pay1 (BitVec.ofNat 32 (i 0).val) (wsc c i arg1 harg1 arg2 harg2 arg3 harg3 arg4 harg4 arg5 harg5 arg6 harg6 arg7 harg7 x0 x1 X4 X7) (View.readAt (Elt Ideal) arg6.view (rR i).toLoadRect X6)⟩
end

/-- The new residual's buffer after the first loop. -/
abbrev wX4 : BufTy.Contents (Elt Ideal) arg4.view.ty := harg4.unread (View.canon (st_k0_t1 (F := Ideal) Variants.none c none i arg1 harg1 arg2 harg2 arg3 harg3 arg4 harg4 arg5 harg5 arg6 harg6 arg7 harg7 (harg1.unread x0) (harg2.unread x1) k0_pay47 trips1).2)
/-- The store into the weights' scratch. -/
abbrev wP7 : View.Piece (Elt Ideal) S1x36864 .f32 :=
  ⟨Rect.unit (s := S1x36864) ![0, 0] ![1, 36864] inb_S1x36864_S1x36864_0_0,
    k0_pay45 (View.readAt (Elt Ideal) arg3.view (Rect.unit (s := S1x36864) ![0, 0] ![1, 36864] inb_S1x36864_S1x36864_0_0).toLoadRect (harg3.unread x2))⟩
/-- The weights' scratch after the first step's store. -/
abbrev wX7 : BufTy.Contents (Elt Ideal) arg7.view.ty := arg7.view.writes (Elt Ideal) arg7.view.junk [wP7 arg3 harg3 x2]
/-- The zeroing of the scales. -/
abbrev wP0 : View.Piece (Elt Ideal) S24x128 .f32 := ⟨Rect.unit (s := S24x128) ![0, 0] ![24, 128] inb_S24x128_S24x128_0_0, k0_pay46 (F := Ideal)⟩
/-- The scales after the zeroing. -/
abbrev wX6 : BufTy.Contents (Elt Ideal) arg6.view.ty := arg6.view.writes (Elt Ideal) arg6.view.junk [wP0]

/-- The pieces the first step leaves of the new residual. -/
theorem runA_3 (hc0 : cond0_0 i) : (kernelRun0_A (F := Ideal) c i arg1 harg1 arg2 harg2 arg3 harg3 arg4 harg4 arg5 harg5 arg6 harg6 arg7 harg7 hc0 x0 x1 x2).1
    = (st_k0_t1 (F := Ideal) Variants.none c none i arg1 harg1 arg2 harg2 arg3 harg3 arg4 harg4 arg5 harg5 arg6 harg6 arg7 harg7 (harg1.unread x0) (harg2.unread x1) k0_pay47 trips1).2 := rfl
/-- The pieces the first step leaves of the codes. -/
theorem runA_4 (hc0 : cond0_0 i) : (kernelRun0_A (F := Ideal) c i arg1 harg1 arg2 harg2 arg3 harg3 arg4 harg4 arg5 harg5 arg6 harg6 arg7 harg7 hc0 x0 x1 x2).2.1
    = wP3 c i arg1 harg1 arg2 harg2 arg3 harg3 arg4 harg4 arg5 harg5 arg6 harg6 arg7 harg7 x0 x1 (wX4 c i arg1 harg1 arg2 harg2 arg3 harg3 arg4 harg4 arg5 harg5 arg6 harg6 arg7 harg7 x0 x1) (wX7 arg3 harg3 arg7 x2) := rfl
/-- The pieces the first step leaves of the scales. -/
theorem runA_5 (hc0 : cond0_0 i) : (kernelRun0_A (F := Ideal) c i arg1 harg1 arg2 harg2 arg3 harg3 arg4 harg4 arg5 harg5 arg6 harg6 arg7 harg7 hc0 x0 x1 x2).2.2.1
    = [wP5 c i arg1 harg1 arg2 harg2 arg3 harg3 arg4 harg4 arg5 harg5 arg6 harg6 arg7 harg7 x0 x1 (wX4 c i arg1 harg1 arg2 harg2 arg3 harg3 arg4 harg4 arg5 harg5 arg6 harg6 arg7 harg7 x0 x1) (wX7 arg3 harg3 arg7 x2) (wX6 arg6), wP0] := rfl
/-- The piece the first step leaves in the scratch. -/
theorem runA_7 (hc0 : cond0_0 i) : (kernelRun0_A (F := Ideal) c i arg1 harg1 arg2 harg2 arg3 harg3 arg4 harg4 arg5 harg5 arg6 harg6 arg7 harg7 hc0 x0 x1 x2).2.2.2.1 = [wP7 arg3 harg3 x2] := rfl
/-- The pieces a later step leaves of the new residual. -/
theorem runB_3 (hc0 : ¬cond0_0 i) : (kernelRun0_B (F := Ideal) c i arg1 harg1 arg2 harg2 arg3 harg3 arg4 harg4 arg5 harg5 arg6 harg6 arg7 harg7 hc0 x0 x1 x2 xo5 xs0).1
    = (st_k0_t1 (F := Ideal) Variants.none c none i arg1 harg1 arg2 harg2 arg3 harg3 arg4 harg4 arg5 harg5 arg6 harg6 arg7 harg7 (harg1.unread x0) (harg2.unread x1) k0_pay47 trips1).2 := rfl
/-- The pieces a later step leaves of the codes. -/
theorem runB_4 (hc0 : ¬cond0_0 i) : (kernelRun0_B (F := Ideal) c i arg1 harg1 arg2 harg2 arg3 harg3 arg4 harg4 arg5 harg5 arg6 harg6 arg7 harg7 hc0 x0 x1 x2 xo5 xs0).2.1
    = wP3 c i arg1 harg1 arg2 harg2 arg3 harg3 arg4 harg4 arg5 harg5 arg6 harg6 arg7 harg7 x0 x1 (wX4 c i arg1 harg1 arg2 harg2 arg3 harg3 arg4 harg4 arg5 harg5 arg6 harg6 arg7 harg7 x0 x1) (harg7.unread xs0) := rfl
/-- The pieces a later step leaves of the scales. -/
theorem runB_5 (hc0 : ¬cond0_0 i) : (kernelRun0_B (F := Ideal) c i arg1 harg1 arg2 harg2 arg3 harg3 arg4 harg4 arg5 harg5 arg6 harg6 arg7 harg7 hc0 x0 x1 x2 xo5 xs0).2.2.1
    = [wP5 c i arg1 harg1 arg2 harg2 arg3 harg3 arg4 harg4 arg5 harg5 arg6 harg6 arg7 harg7 x0 x1 (wX4 c i arg1 harg1 arg2 harg2 arg3 harg3 arg4 harg4 arg5 harg5 arg6 harg6 arg7 harg7 x0 x1) (harg7.unread xs0) (harg6.unread xo5)] := rfl

/-! ## The buffers between the loops -/

/-- The first loop has 18 trips. -/
theorem trips1_eq : trips1 = 18 := by decide
/-- The second loop has 18 trips. -/
theorem trips2_eq : trips2 = 18 := by decide
/-- The third loop has 18 trips. -/
theorem trips3_eq : trips3 = 18 := by decide

/-- The first loop's stores make the block's new residual. -/
theorem canon1_eq : View.canon (st_k0_t1 (F := Ideal) Variants.none c none i arg1 harg1 arg2 harg2 arg3 harg3 arg4 harg4 arg5 harg5 arg6 harg6 arg7 harg7 (harg1.unread x0) (harg2.unread x1) k0_pay47 trips1).2 = nrB x0 x1 := by
  funext y
  refine View.canon_apply_of_pieces _ _ ?_ y (cover_t1 c i arg1 harg1 arg2 harg2 arg3 harg3 arg4 harg4 arg5 harg5 arg6 harg6 arg7 harg7 x0 x1 y)
  rw [trips1_eq]
  exact S1_pieces Variants.none c none i arg1 harg1 arg2 harg2 arg3 harg3 arg4 harg4 arg5 harg5 arg6 harg6 arg7 harg7 x0 x1 18 le_rfl

/-- After the first loop the residual's buffer holds the new residual. -/
theorem wX4_eq : wX4 c i arg1 harg1 arg2 harg2 arg3 harg3 arg4 harg4 arg5 harg5 arg6 harg6 arg7 harg7 x0 x1 = harg4.unread (nrB x0 x1) := by
  unfold wX4; rw [canon1_eq]

/-- The first step's copy of gamma, read back. -/
theorem read7 : View.canon [wP7 arg3 harg3 x2] = gB x2 := by
  rw [View.canon_unit_zero (by funext a; match a with | ⟨0, _⟩ => rfl | ⟨1, _⟩ => rfl)]
  rw [show View.readAt (Elt Ideal) arg3.view (Rect.unit (s := S1x36864) ![0, 0] ![1, 36864] inb_S1x36864_S1x36864_0_0).toLoadRect (harg3.unread x2)
    = x2 from by
      refine Eq.trans ?_ (View.ld_unit_zero (by funext a; match a with | ⟨0, _⟩ => rfl | ⟨1, _⟩ => rfl) inb_S1x36864_S1x36864_0_0 x2)
      show View.ld (arg3.view.read (Elt Ideal) (harg3.unread x2)) _ = _
      rw [harg3.read_unread]]
  exact pay45_eq x2

/-- After the copy the scratch holds gamma. -/
theorem wX7_eq : wX7 arg3 harg3 arg7 x2 = harg7.unread (gB x2) := by
  refine harg7.eq_unread ?_
  unfold wX7
  rw [View.read_writes_eq_canon _ _ _ (fun y => View.cover_of_tiledL [wP7 arg3 harg3 x2] S1x36864.size (by sl_kernel_rfl) y)]
  exact read7 arg3 harg3 x2

/-- The inverse root of the step, at an entry of a tile. -/
theorem hv5 (x : S32x128.Idx) : k0_pay52 (w5 c i arg1 harg1 arg2 harg2 arg3 harg3 arg4 harg4 arg5 harg5 arg6 harg6 arg7 harg7 x0 x1) x = Norm.inv (rowB x0 x1 (x 0)) := by
  unfold w5; rw [trips1_eq]; exact inv_eq Variants.none c none i arg1 harg1 arg2 harg2 arg3 harg3 arg4 harg4 arg5 harg5 arg6 harg6 arg7 harg7 x0 x1 x

/-- The scale of the step, at an entry of a tile. -/
theorem wsc_eq (G7 : Vec Ideal S1x36864 .f32) (x : S32x128.Idx) :
    wsc c i arg1 harg1 arg2 harg2 arg3 harg3 arg4 harg4 arg5 harg5 arg6 harg6 arg7 harg7 x0 x1 (harg4.unread (nrB x0 x1)) (harg7.unread G7) x = Norm.kscale (Norm.zv (rowB x0 x1 (x 0)) (gRow G7)) := by
  unfold wsc
  rw [pay61_apply]
  unfold w16
  rw [trips2_eq, zv_eq Variants.none c none i arg1 harg1 arg2 harg2 arg3 harg3 arg4 harg4 arg5 harg5 arg6 harg6 arg7 harg7 x0 x1 G7 (w5 c i arg1 harg1 arg2 harg2 arg3 harg3 arg4 harg4 arg5 harg5 arg6 harg6 arg7 harg7 x0 x1) (hv5 c i arg1 harg1 arg2 harg2 arg3 harg3 arg4 harg4 arg5 harg5 arg6 harg6 arg7 harg7 x0 x1) x]

/-- The third loop's stores are the tiles of the block's codes. -/
theorem wP3_pieces (G7 : Vec Ideal S1x36864 .f32) :
    ∀ p ∈ wP3 c i arg1 harg1 arg2 harg2 arg3 harg3 arg4 harg4 arg5 harg5 arg6 harg6 arg7 harg7 x0 x1 (harg4.unread (nrB x0 x1)) (harg7.unread G7), ∀ x : p.1.shape.Idx, p.2 x = cdB x0 x1 G7 (p.1.emb x) := by
  unfold wP3
  rw [trips3_eq]
  refine P3_pieces Variants.none c none i arg1 harg1 arg2 harg2 arg3 harg3 arg4 harg4 arg5 harg5 arg6 harg6 arg7 harg7 x0 x1 G7 (w5 c i arg1 harg1 arg2 harg2 arg3 harg3 arg4 harg4 arg5 harg5 arg6 harg6 arg7 harg7 x0 x1) (hv5 c i arg1 harg1 arg2 harg2 arg3 harg3 arg4 harg4 arg5 harg5 arg6 harg6 arg7 harg7 x0 x1) _ _ _ _ _ _ rfl ?_ 18 le_rfl
  intro x
  rw [pay62_apply]
  unfold w16
  rw [trips2_eq, zv_eq Variants.none c none i arg1 harg1 arg2 harg2 arg3 harg3 arg4 harg4 arg5 harg5 arg6 harg6 arg7 harg7 x0 x1 G7 (w5 c i arg1 harg1 arg2 harg2 arg3 harg3 arg4 harg4 arg5 harg5 arg6 harg6 arg7 harg7 x0 x1) (hv5 c i arg1 harg1 arg2 harg2 arg3 harg3 arg4 harg4 arg5 harg5 arg6 harg6 arg7 harg7 x0 x1) x]

/-- The store into the scales, over any contents. -/
theorem upd_eq (G7 : Vec Ideal S1x36864 .f32) (v : View sig .tc .vmem S24x128 .f32) (f : v.ty.Contents (Elt Ideal)) (L : List (View.Piece (Elt Ideal) S24x128 .f32))
    (X6 : BufTy.Contents (Elt Ideal) arg6.view.ty) (prev : Vec Ideal S24x128 .f32) (h : v.read (Elt Ideal) (v.writes (Elt Ideal) f L) = prev)
    (h6 : arg6.view.read (Elt Ideal) X6 = prev) :
    v.read (Elt Ideal) (v.writes (Elt Ideal) f (wP5 c i arg1 harg1 arg2 harg2 arg3 harg3 arg4 harg4 arg5 harg5 arg6 harg6 arg7 harg7 x0 x1 (harg4.unread (nrB x0 x1)) (harg7.unread G7) X6 :: L)) = updB x0 x1 G7 (i 0).val prev := by
  funext y
  unfold updB
  have hy : (y 1).val < 128 := (y 1).isLt
  by_cases hr : (y 0).val = (i 0).val / 4
  · rw [if_pos hr]
    refine (Idealize.ShloMosaic.View.read_writes_cons_rows_of_mem (d := ![24, 128]) v f (k0_off6_inb i) _ L y (ix2 0 (y 1)) (k0_off6_eq i) hr rfl).trans ?_
    refine (pay1_apply (i 0) _ _ _).trans ?_
    refine congrArg₂ (· + ·) ?_ ?_
    · show arg6.view.read (Elt Ideal) X6 ((rR i).idx (ix2 0 (y 1))) = _
      rw [h6]
      refine congrArg prev (funext fun a => Fin.ext ?_)
      have ho := k0_off6_eq i
      match a with
      | ⟨0, _⟩ => show k0_off6 i 0 + 1 * 0 = (y 0).val; rw [ho, hr]; rfl
      | ⟨1, _⟩ => show k0_off6 i 1 + 1 * (y 1).val = (y 1).val; rw [ho]; show 0 + 1 * (y 1).val = _; omega
    · unfold rowAdd
      refine Finset.sum_congr rfl fun t _ => ?_
      rw [wsc_eq]; rfl
  · rw [if_neg hr, ← h]
    exact Idealize.ShloMosaic.View.read_writes_cons_rows_of_not_mem (d := ![24, 128]) v f (k0_off6_inb i) _ L y (k0_off6_eq i) rfl (by
      show (y 0).val < (i 0).val / 4 ∨ (i 0).val / 4 + 1 ≤ (y 0).val; omega)

/-! ## The outputs -/

/-- The first step leaves the block's new residual. -/
theorem outA3_eq (hc0 : cond0_0 i) : out0_A_3 (F := Ideal) c i arg1 harg1 arg2 harg2 arg3 harg3 arg4 harg4 arg5 harg5 arg6 harg6 arg7 harg7 hc0 x0 x1 x2 = nrB x0 x1 := by
  unfold out0_A_3
  rw [View.read_writes_eq_canon _ _ _ (cover0_A_3 (F := Ideal) c i arg1 harg1 arg2 harg2 arg3 harg3 arg4 harg4 arg5 harg5 arg6 harg6 arg7 harg7 hc0 x0 x1 x2), runA_3, canon1_eq]
/-- A later step leaves the block's new residual. -/
theorem outB3_eq (hc0 : ¬cond0_0 i) : out0_B_3 (F := Ideal) c i arg1 harg1 arg2 harg2 arg3 harg3 arg4 harg4 arg5 harg5 arg6 harg6 arg7 harg7 hc0 x0 x1 x2 xo5 xs0 = nrB x0 x1 := by
  unfold out0_B_3
  rw [View.read_writes_eq_canon _ _ _ (cover0_B_3 (F := Ideal) c i arg1 harg1 arg2 harg2 arg3 harg3 arg4 harg4 arg5 harg5 arg6 harg6 arg7 harg7 hc0 x0 x1 x2 xo5 xs0), runB_3, canon1_eq]

/-- The first step leaves the block's codes. -/
theorem outA4_eq (hc0 : cond0_0 i) : out0_A_4 (F := Ideal) c i arg1 harg1 arg2 harg2 arg3 harg3 arg4 harg4 arg5 harg5 arg6 harg6 arg7 harg7 hc0 x0 x1 x2 = cdB x0 x1 (gB x2) := by
  unfold out0_A_4
  rw [View.read_writes_eq_canon _ _ _ (cover0_A_4 (F := Ideal) c i arg1 harg1 arg2 harg2 arg3 harg3 arg4 harg4 arg5 harg5 arg6 harg6 arg7 harg7 hc0 x0 x1 x2)]
  funext y
  refine View.canon_apply_of_pieces _ _ ?_ y (cover0_A_4 (F := Ideal) c i arg1 harg1 arg2 harg2 arg3 harg3 arg4 harg4 arg5 harg5 arg6 harg6 arg7 harg7 hc0 x0 x1 x2 y)
  rw [runA_4, wX4_eq, wX7_eq arg3 harg3 arg7 harg7 x2]
  exact wP3_pieces c i arg1 harg1 arg2 harg2 arg3 harg3 arg4 harg4 arg5 harg5 arg6 harg6 arg7 harg7 x0 x1 (gB x2)
/-- A later step leaves the block's codes. -/
theorem outB4_eq (hc0 : ¬cond0_0 i) : out0_B_4 (F := Ideal) c i arg1 harg1 arg2 harg2 arg3 harg3 arg4 harg4 arg5 harg5 arg6 harg6 arg7 harg7 hc0 x0 x1 x2 xo5 xs0 = cdB x0 x1 xs0 := by
  unfold out0_B_4
  rw [View.read_writes_eq_canon _ _ _ (cover0_B_4 (F := Ideal) c i arg1 harg1 arg2 harg2 arg3 harg3 arg4 harg4 arg5 harg5 arg6 harg6 arg7 harg7 hc0 x0 x1 x2 xo5 xs0)]
  funext y
  refine View.canon_apply_of_pieces _ _ ?_ y (cover0_B_4 (F := Ideal) c i arg1 harg1 arg2 harg2 arg3 harg3 arg4 harg4 arg5 harg5 arg6 harg6 arg7 harg7 hc0 x0 x1 x2 xo5 xs0 y)
  rw [runB_4, wX4_eq]
  exact wP3_pieces c i arg1 harg1 arg2 harg2 arg3 harg3 arg4 harg4 arg5 harg5 arg6 harg6 arg7 harg7 x0 x1 xs0

/-- The first step leaves its scales over zeros. -/
theorem outA5_eq (hc0 : cond0_0 i) : out0_A_5 (F := Ideal) c i arg1 harg1 arg2 harg2 arg3 harg3 arg4 harg4 arg5 harg5 arg6 harg6 arg7 harg7 hc0 x0 x1 x2 = updB x0 x1 (gB x2) (i 0).val (fun _ => 0) := by
  unfold out0_A_5
  rw [runA_5, wX4_eq, wX7_eq arg3 harg3 arg7 harg7 x2]
  have hz : View.canon [wP0] = fun _ => (0 : EReal) := by
    rw [View.canon_unit_zero (by funext a; match a with | ⟨0, _⟩ => rfl | ⟨1, _⟩ => rfl)]
    funext y; exact Ideal.ofBits_zero_f32
  have hcov : ∀ y, ∃ p ∈ [wP0], y ∈ p.1.set := fun y =>
    View.cover_of_tiledL [wP0] S24x128.size (by sl_kernel_rfl) y
  refine upd_eq c i arg1 harg1 arg2 harg2 arg3 harg3 arg4 harg4 arg5 harg5 arg6 harg6 arg7 harg7 x0 x1 (gB x2) _ _ _ _ _ ?_ ?_
  · rw [View.read_writes_eq_canon _ _ _ hcov, hz]
  · unfold wX6; rw [View.read_writes_eq_canon _ _ _ hcov, hz]
/-- A later step adds its scales to those before. -/
theorem outB5_eq (hc0 : ¬cond0_0 i) : out0_B_5 (F := Ideal) c i arg1 harg1 arg2 harg2 arg3 harg3 arg4 harg4 arg5 harg5 arg6 harg6 arg7 harg7 hc0 x0 x1 x2 xo5 xs0 = updB x0 x1 xs0 (i 0).val xo5 := by
  unfold out0_B_5
  rw [runB_5, wX4_eq]
  exact upd_eq c i arg1 harg1 arg2 harg2 arg3 harg3 arg4 harg4 arg5 harg5 arg6 harg6 arg7 harg7 x0 x1 xs0 _ _ [] _ xo5 (harg6.read_unread _) (harg6.read_unread _)

/-- The first step leaves gamma in the scratch. -/
theorem soutA_eq (hc0 : cond0_0 i) : sout0_A_0 (F := Ideal) c i arg1 harg1 arg2 harg2 arg3 harg3 arg4 harg4 arg5 harg5 arg6 harg6 arg7 harg7 hc0 x0 x1 x2 = gB x2 := by
  unfold sout0_A_0
  rw [View.read_writes_eq_canon _ _ _ (scover0_A_0 (F := Ideal) c i arg1 harg1 arg2 harg2 arg3 harg3 arg4 harg4 arg5 harg5 arg6 harg6 arg7 harg7 hc0 x0 x1 x2), runA_7, read7]

end Cert.KernelIdeal.Val

end
-- ==== Proof.KernelIdeal.Value.lean ====
/- What each of the kernel's three result arrays holds after the run, by the grid step that wrote the index: the
   blocks of the first two results (one block of 32 rows a step), the whole third result after the last step. The layout
   follows the generated value modules. -/
module

public import proofs.«01_k».proof.Proof.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 3's array: the run's contents for that window after the body (`Gen.outsAt0`: its component 0), read through the window's block. -/
theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- … so at a point where case A runs, what its write-back would write is that case's NAMED TERM for the window (`Gen.out0_A_3`: the pieces
    its run found, read back) at the point's memrefs and input blocks, and for an output the case reads back what the point before left (`Gen.outsAt0` at `t - 1`) — by the frame's rewriting lemma for the case. -/
theorem flushed3_A (c : Dev nD) (t : Fin cfg0.N) (h0 : t.val % 96 = 0) :
    (dats m 0 c).flushed 3 t = (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed3, outsAt0_A m c t h0]

/-- … so at a point where case B runs, what its write-back would write is that case's NAMED TERM for the window (`Gen.out0_B_3`: the pieces
    its run found, read back) at the point's memrefs and input blocks, and for an output the case reads back what the point before left (`Gen.outsAt0` at `t - 1`) — by the frame's rewriting lemma for the case. -/
theorem flushed3_B (c : Dev nD) (t : Fin cfg0.N) (h0 : ¬t.val % 96 = 0) :
    (dats m 0 c).flushed 3 t = (cfg0.win 3).cut (grid0.coords t) (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed3, outsAt0_B m c t h0]

/-- The index map sends distinct grid points to distinct block indices (decided over the 96 points). -/
theorem idx_inj3 : ∀ t t' : Fin cfg0.N, win0_3.index t = win0_3.index t' → t = t' :=
  (by decide +kernel : ∀ t t' : Fin grid0.N, win0_3.index t = win0_3.index t' → t = t')

/-- So two flushing points' blocks share no array index (Lib/Pipeline/Cells.lean `Window.disjoint_blk`). -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg0.N) (hf : (cfg0.win 3).flush t = true) :
    ((cfg0.win 3).blk t).view.read (Elt F) ((dats m 0 c).arrAt 3 cfg0.N) = (dats m 0 c).flushed 3 t :=
  (dats m 0 c).read_blk_arrAt_eq_flushed 3 disjoint3 cfg0.N t t.isLt hf

/-- An index that no flushing point's block covers keeps output window 3's array contents at region entry. -/
theorem entry3 (c : Dev nD) (i : S3072x36864.Idx) (h : ∀ t : Fin cfg0.N, (cfg0.win 3).flush t = true → i ∉ ((cfg0.win 3).blk t).view.set) :
    (dats m 0 c).arrAt 3 cfg0.N i = V m c (Pipeline.arrRef spec0 3) i := by
  rw [(dats m 0 c).arrAt_apply_of_forall_not_mem 3 cfg0.N i (fun t _ hf => h t hf), A_eq]

/-- WHAT POINT `t` WRITES BACK to output window 4's array: the run's contents for that window after the body (`Gen.outsAt0`: its component 1), read through the window's block. -/
theorem flushed4 (c : Dev nD) (t : Fin cfg0.N) :
    (dats m 0 c).flushed 4 t = (cfg0.win 4).cut (grid0.coords t) ((outsAt0 m c t.val t.isLt).2.1) := by
  show (cfg0.win 4).cut (grid0.coords t) ((dats m 0 c).after 4 t) = _
  rw [after0_4]

/-- … so at a point where case A runs, what its write-back would write is that case's NAMED TERM for the window (`Gen.out0_A_4`: the pieces
    its run found, read back) at the point's memrefs and input blocks, and for an output the case reads back what the point before left (`Gen.outsAt0` at `t - 1`) — by the frame's rewriting lemma for the case. -/
theorem flushed4_A (c : Dev nD) (t : Fin cfg0.N) (h0 : t.val % 96 = 0) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed4, outsAt0_A m c t h0]

/-- … so at a point where case B runs, what its write-back would write is that case's NAMED TERM for the window (`Gen.out0_B_4`: the pieces
    its run found, read back) at the point's memrefs and input blocks, and for an output the case reads back what the point before left (`Gen.outsAt0` at `t - 1`) — by the frame's rewriting lemma for the case. -/
theorem flushed4_B (c : Dev nD) (t : Fin cfg0.N) (h0 : ¬t.val % 96 = 0) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed4, outsAt0_B m c t h0]

/-- The index map sends distinct grid points to distinct block indices (decided over the 96 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- An index that no flushing point's block covers keeps output window 4's array contents at region entry. -/
theorem entry4 (c : Dev nD) (i : S3072x36864.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`Gen.outsAt0`: its component 2), read through the window's block. -/
theorem flushed5 (c : Dev nD) (t : Fin cfg0.N) :
    (dats m 0 c).flushed 5 t = (cfg0.win 5).cut (grid0.coords t) ((outsAt0 m c t.val t.isLt).2.2.1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 96 = 0) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) := by
  simp only [flushed5, outsAt0_A m c t h0]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 96 = 0) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  simp only [flushed5, outsAt0_B m c t h0]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S24x128.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 3's array is `(dats m 0 c).arrAt 3 N`. -/
theorem post3 (r : PUnit × MemSt nD τ sig (Elt F)) (h : Pipeline.FramePost cfgs (dats m) 0 (V m) r) (c : Dev nD) :
    r.2.mem ((c : Thread nD τ).loc main_v3_0) = (dats m 0 c).arrAt 3 cfg0.N :=
  (h c).1 3

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_1) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_2) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 3 cfg0.N
      ∧ r.2.mem ((c : Thread nD τ).loc main_v3_1) = (dats m 0 c).arrAt 4 cfg0.N
      ∧ r.2.mem ((c : Thread nD τ).loc main_v3_2) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post3 m r h c,
      post4 m r h c,
      post5 m r h c,
      kept_main_arg0 m r h c,
      kept_main_arg1 m r h c,
      kept_main_arg2 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1x36864 .f32) : Vec F S1x36864 .f32 :=
  if h0 : n % 96 = 0 then
    sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N))
  else
    sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc

/-- WHAT CARRIED SCRATCH 0 HOLDS after point `t`: the fold of its run up to `t`, from the reset at the run's first point
    `96·(t / 96)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.2 = Pipeline.accAt (fun n h => scAt0_0 m c n h (VS0_0.read (Elt F) VS0_0.junk)) (scAt0_0 m c) (96 * (t.val / 96)) (t.val % 96)
      (by have h1 := t.isLt; have h2 := Nat.div_add_mod t.val 96; omega) :=
  Pipeline.eq_accAt_of_mod (fun n h => (outsAt0 m c n h).2.2.2) 96 (fun n h => scAt0_0 m c n h (VS0_0.read (Elt F) VS0_0.junk)) (scAt0_0 m c)
    (fun n h hn => by
      have hN := lt_of_lt_of_eq h (show cfg0.N = 96 from N_0)
      by_cases h0 : n % 96 = 0
      all_goals first | (exfalso; omega) | (rw [outsAt0_A m c ⟨n, h⟩ h0]; dsimp only; unfold scAt0_0; rw [dif_pos h0] <;> try rfl) | (rw [outsAt0_B m c ⟨n, h⟩ h0]; dsimp only; unfold scAt0_0; rw [dif_neg h0] <;> try rfl))
    (fun n h hn => by
      have hN := lt_of_lt_of_eq h (show cfg0.N = 96 from N_0)
      by_cases h0 : (n + 1) % 96 = 0
      all_goals first | (exfalso; omega) | (rw [outsAt0_A m c ⟨n + 1, h⟩ h0]; dsimp only; unfold scAt0_0; rw [dif_pos h0] <;> try rfl) | (rw [outsAt0_B m c ⟨n + 1, h⟩ h0]; dsimp only; unfold scAt0_0; rw [dif_neg h0] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 96 from N_0)
  have hd : n / 96 = 0 := Nat.div_eq_of_lt hN
  have hm : n % 96 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S32x36864 .bf16 × Vec F S32x36864 .fp8e4m3 × Vec F S24x128 .f32 × Vec F S1x36864 .f32 :=
  ((VO0_3.read (Elt F) VO0_3.junk, VO0_4.read (Elt F) VO0_4.junk, VO0_5.read (Elt F) VO0_5.junk, VS0_0.read (Elt F) VS0_0.junk) : Vec F S32x36864 .bf16 × Vec F S32x36864 .fp8e4m3 × Vec F S24x128 .f32 × Vec F S1x36864 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S32x36864 .bf16 × Vec F S32x36864 .fp8e4m3 × Vec F S24x128 .f32 × Vec F S1x36864 .f32) : Vec F S32x36864 .bf16 × Vec F S32x36864 .fp8e4m3 × Vec F S24x128 .f32 × Vec F S1x36864 .f32 :=
  if h0 : n % 96 = 0 then
    (out0_A_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) ((hcond0_0 (⟨n, hb⟩ : Fin cfg0.N)).mpr h0) (iblk m c 0 (⟨n, hb⟩ : Fin cfg0.N)) (iblk m c 1 (⟨n, hb⟩ : Fin cfg0.N)) (iblk m c 2 (⟨n, hb⟩ : Fin cfg0.N)))
  else
    (out0_B_3 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2.1 acc.2.2.2, out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2.1 acc.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2.1 acc.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) (fun h => h0 ((hcond0_0 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc.2.2.1 acc.2.2.2)

/-- `stAt0` at a point of case A: that case's contents. -/
theorem stAt0_A (c : Dev nD) (t : Fin cfg0.N) (acc : Vec F S32x36864 .bf16 × Vec F S32x36864 .fp8e4m3 × Vec F S24x128 .f32 × Vec F S1x36864 .f32) (h0 : t.val % 96 = 0) :
    stAt0 m c t.val t.isLt acc = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t)) :=
  (dif_pos h0).trans rfl

/-- `stAt0` at a point of case B: that case's contents, over `acc`. -/
theorem stAt0_B (c : Dev nD) (t : Fin cfg0.N) (acc : Vec F S32x36864 .bf16 × Vec F S32x36864 .fp8e4m3 × Vec F S24x128 .f32 × Vec F S1x36864 .f32) (h0 : ¬t.val % 96 = 0) :
    stAt0 m c t.val t.isLt acc = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) acc.2.2.1 acc.2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) acc.2.2.1 acc.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) acc.2.2.1 acc.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) acc.2.2.1 acc.2.2.2) :=
  (dif_neg h0).trans rfl

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 96 from N_0)
  have e := Pipeline.eq_accAt_of_mod (fun n h => outsAt0 m c n h) 96 (fun n h => stAt0 m c n h junk0) (stAt0 m c)
    (fun n h _ => by
      have hN := lt_of_lt_of_eq h (show cfg0.N = 96 from N_0)
      obtain rfl : n = 0 := by omega
      exact outsAt0_zero m c h)
    (fun n h _ => outsAt0_succ m c n h)
    (by decide) n hn (by have := Nat.div_add_mod n 96; omega)
  have hd : n / 96 = 0 := Nat.div_eq_of_lt hN
  have hm : n % 96 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 3 -/

/-- The block of the array that holds index `i`, numbered in the order the points write the blocks back (one per point),
    `i`'s place in it, and the point that writes it back. -/
abbrev run3Of (i : S3072x36864.Idx) : ℕ := 1 * ((i 0).val / 32 - 0) + 1 * ((i 1).val / 36864 - 0)
set_option backward.proofsInPublic true in
abbrev loc3Of (i : S3072x36864.Idx) : S32x36864.Idx := fun a => match a with
  | ⟨0, _⟩ => ⟨(i 0).val % 32, Nat.mod_lt _ (by decide)⟩
  | ⟨1, _⟩ => ⟨(i 1).val % 36864, Nat.mod_lt _ (by decide)⟩
abbrev pt3Of (i : S3072x36864.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v3_0) := fun i =>
  if h : pt3Of i < cfg0.N then
    (Pipeline.accAt (fun n h => stAt0 m c n h junk0) (stAt0 m c) 0 (pt3Of i) (by omega)).1 (loc3Of i)
  else V m c (Pipeline.arrRef spec0 3) i

/-- The printed index map, decided over the grid: output window 3's block indices stay in the box, and the block number
    read off them is the point's (`t`). -/
theorem idx_facts3 : ∀ t : Fin cfg0.N, 0 ≤ win0_3.index t (0 : Fin 2) ∧ win0_3.index t (0 : Fin 2) ≤ 95
    ∧ 0 ≤ win0_3.index t (1 : Fin 2) ∧ win0_3.index t (1 : Fin 2) ≤ 0
    ∧ 1 * (win0_3.index t (0 : Fin 2) - 0) + 1 * (win0_3.index t (1 : Fin 2) - 0) = t.val :=
  (by decide +kernel : ∀ t : Fin grid0.N, _)

/-- Every block of the box is SOME flushing point's: `onto3Pt`, the point that writes back the block at place `q` of the box. -/
abbrev onto3Pt (q0 : Fin 96) (q1 : Fin 1) : Fin grid0.N :=
  ⟨1 * q0.val + 1 * q1.val, lt_of_lt_of_eq (by omega) N_0.symm⟩
/-- Every block of the new residual is written by a step. -/
theorem idx_onto3 : ∀ (q0 : Fin 96) (q1 : Fin 1), ∃ t : Fin cfg0.N, (cfg0.win 3).flush t = true ∧ win0_3.index t = ![q0.val + 0, q1.val + 0] :=
  fun q0 q1 => ⟨onto3Pt q0 q1, (by decide +kernel : ∀ (q0 : Fin 96) (q1 : Fin 1), win0_3.flush (onto3Pt q0 q1) = true ∧ win0_3.index (onto3Pt q0 q1) = ![q0.val + 0, q1.val + 0]) q0 q1⟩

/-- WHAT A FLUSHING POINT `t` WRITES BACK is block `t` of `G3`: output 3's component of the fold up to `t`. -/
theorem flushed3_eq (c : Dev nD) (t : Fin cfg0.N) (hf : (cfg0.win 3).flush t = true) :
    (dats m 0 c).flushed 3 t = ((cfg0.win 3).blk t).view.read (Elt F) (G3 m c) := by
  show (cfg0.win 3).cut (grid0.coords t) ((dats m 0 c).after 3 t) = _
  rw [after0_3, outsAt0_sweep]
  obtain ⟨e0, e1, e2⟩ := idx_facts3 t
  funext y
  have hy0 : (y 0).val < 32 := (y 0).isLt
  have hy1 : (y 1).val < 36864 := (y 1).isLt
  have hb0 : (((cfg0.win 3).blk t).view.emb y 0).val = win0_3.index t (0 : Fin 2) * 32 + 1 * (y 0).val := rfl
  have hb1 : (((cfg0.win 3).blk t).view.emb y 1).val = win0_3.index t (1 : Fin 2) * 36864 + 1 * (y 1).val := rfl
  have hr : run3Of (((cfg0.win 3).blk t).view.emb y) = t.val := by
    show 1 * ((((cfg0.win 3).blk t).view.emb y 0).val / 32 - 0) + 1 * ((((cfg0.win 3).blk t).view.emb y 1).val / 36864 - 0) = _
    rw [hb0, hb1]
    rw [show (win0_3.index t (0 : Fin 2) * 32 + 1 * (y 0).val) / 32 = win0_3.index t (0 : Fin 2) from by omega]; rw [show (win0_3.index t (1 : Fin 2) * 36864 + 1 * (y 1).val) / 36864 = win0_3.index t (1 : Fin 2) from by omega]
    omega
  have hl : loc3Of (((cfg0.win 3).blk t).view.emb y) = (cfg0.win 3).xinj (grid0.coords t) y := by
    funext a; apply Fin.ext
    match a with
    | ⟨0, _⟩ => show (((cfg0.win 3).blk t).view.emb y 0).val % 32 = (y 0).val; rw [hb0]; omega
    | ⟨1, _⟩ => show (((cfg0.win 3).blk t).view.emb y 1).val % 36864 = (y 1).val; rw [hb1]; omega
  have hp : pt3Of (((cfg0.win 3).blk t).view.emb y) = t.val := by
    exact hr
  show (Pipeline.accAt (fun n h => stAt0 m c n h junk0) (stAt0 m c) 0 t.val _).1 ((cfg0.win 3).xinj (grid0.coords t) y) = G3 m c (((cfg0.win 3).blk t).view.emb y)
  unfold G3
  rw [dif_pos (by rw [hp]; exact t.isLt), hl, fold0_congr m c _ _ _ _ hp.symm]

/-- An index of the array is in point `t`'s block iff each coordinate is in the block's range on its axis. -/
theorem mem_blk3 (t : Fin cfg0.N) (i : S3072x36864.Idx) :
    i ∈ ((cfg0.win 3).blk t).view.set ↔ ∀ a : Fin 2, win0_3.index t a * S32x36864.size a ≤ (i a).val ∧ (i a).val < win0_3.index t a * S32x36864.size a + S32x36864.size a := by
  show i ∈ ((View.whole main_v3_0).slice (win0_3.rect t)).set ↔ _
  rw [View.set_slice_whole, Rect.mem_set_unit]
  exact Iff.rfl

/-- THE COVERED INDICES: in some flushing point's block iff inside the box those blocks fill. -/
theorem covered_iff3 (i : S3072x36864.Idx) :
    (∃ t : Fin cfg0.N, (cfg0.win 3).flush t = true ∧ i ∈ ((cfg0.win 3).blk t).view.set) ↔ 0 ≤ (i 0).val ∧ (i 0).val < 3072 ∧ 0 ≤ (i 1).val ∧ (i 1).val < 36864 := by
  constructor
  · rintro ⟨t, -, hi⟩
    rw [mem_blk3] at hi
    have b0 : win0_3.index t (0 : Fin 2) * 32 ≤ (i 0).val ∧ (i 0).val < win0_3.index t (0 : Fin 2) * 32 + 32 := hi 0
    have b1 : win0_3.index t (1 : Fin 2) * 36864 ≤ (i 1).val ∧ (i 1).val < win0_3.index t (1 : Fin 2) * 36864 + 36864 := hi 1
    obtain ⟨e0, e1, e2⟩ := idx_facts3 t
    omega
  · intro h
    have hi0 : (i 0).val < 3072 := (i 0).isLt
    have hi1 : (i 1).val < 36864 := (i 1).isLt
    obtain ⟨t, hft, ht⟩ := idx_onto3 ⟨(i 0).val / 32 - 0, by omega⟩ ⟨(i 1).val / 36864 - 0, by omega⟩
    have q0 : win0_3.index t (0 : Fin 2) = (i 0).val / 32 - 0 + 0 := congrFun ht 0
    have q1 : win0_3.index t (1 : Fin 2) = (i 1).val / 36864 - 0 + 0 := congrFun ht 1
    refine ⟨t, hft, ?_⟩
    rw [mem_blk3]
    intro a
    match a with
    | ⟨0, _⟩ => show win0_3.index t (0 : Fin 2) * 32 ≤ (i 0).val ∧ (i 0).val < win0_3.index t (0 : Fin 2) * 32 + 32; omega
    | ⟨1, _⟩ => show win0_3.index t (1 : Fin 2) * 36864 ≤ (i 1).val ∧ (i 1).val < win0_3.index t (1 : Fin 2) * 36864 + 36864; omega

/-- THE ARRAY after the run: `G3` (the flushing blocks tile it). -/
theorem final3 (c : Dev nD) : (dats m 0 c).arrAt 3 cfg0.N = G3 m c :=
  (dats m 0 c).arrAt_eq_of_cover 3 _ (fun t hf => flushed3_eq m c t hf) (fun i => (covered_iff3 i).2 (by
    have h0 : (i 0).val < 3072 := (i 0).isLt; have h1 : (i 1).val < 36864 := (i 1).isLt; omega))

/-! ## Output window 4 -/

/-- The block of the array that holds index `i`, numbered in the order the points write the blocks back (one per point),
    `i`'s place in it, and the point that writes it back. -/
abbrev run4Of (i : S3072x36864.Idx) : ℕ := 1 * ((i 0).val / 32 - 0) + 1 * ((i 1).val / 36864 - 0)
set_option backward.proofsInPublic true in
abbrev loc4Of (i : S3072x36864.Idx) : S32x36864.Idx := fun a => match a with
  | ⟨0, _⟩ => ⟨(i 0).val % 32, Nat.mod_lt _ (by decide)⟩
  | ⟨1, _⟩ => ⟨(i 1).val % 36864, Nat.mod_lt _ (by decide)⟩
abbrev pt4Of (i : S3072x36864.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v3_1) := fun i =>
  if h : pt4Of i < cfg0.N then
    (Pipeline.accAt (fun n h => stAt0 m c n h junk0) (stAt0 m c) 0 (pt4Of i) (by omega)).2.1 (loc4Of i)
  else V m c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 95
    ∧ 0 ≤ win0_4.index t (1 : Fin 2) ∧ win0_4.index t (1 : Fin 2) ≤ 0
    ∧ 1 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 96) (q1 : Fin 1) : Fin grid0.N :=
  ⟨1 * q0.val + 1 * q1.val, lt_of_lt_of_eq (by omega) N_0.symm⟩
/-- Every block of the codes is written by a step. -/
theorem idx_onto4 : ∀ (q0 : Fin 96) (q1 : Fin 1), ∃ t : Fin cfg0.N, (cfg0.win 4).flush t = true ∧ win0_4.index t = ![q0.val + 0, q1.val + 0] :=
  fun q0 q1 => ⟨onto4Pt q0 q1, (by decide +kernel : ∀ (q0 : Fin 96) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  obtain ⟨e0, e1, e2⟩ := idx_facts4 t
  funext y
  have hy0 : (y 0).val < 32 := (y 0).isLt
  have hy1 : (y 1).val < 36864 := (y 1).isLt
  have hb0 : (((cfg0.win 4).blk t).view.emb y 0).val = win0_4.index t (0 : Fin 2) * 32 + 1 * (y 0).val := rfl
  have hb1 : (((cfg0.win 4).blk t).view.emb y 1).val = win0_4.index t (1 : Fin 2) * 36864 + 1 * (y 1).val := rfl
  have hr : run4Of (((cfg0.win 4).blk t).view.emb y) = t.val := by
    show 1 * ((((cfg0.win 4).blk t).view.emb y 0).val / 32 - 0) + 1 * ((((cfg0.win 4).blk t).view.emb y 1).val / 36864 - 0) = _
    rw [hb0, hb1]
    rw [show (win0_4.index t (0 : Fin 2) * 32 + 1 * (y 0).val) / 32 = win0_4.index t (0 : Fin 2) from by omega]; rw [show (win0_4.index t (1 : Fin 2) * 36864 + 1 * (y 1).val) / 36864 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 32 = (y 0).val; rw [hb0]; omega
    | ⟨1, _⟩ => show (((cfg0.win 4).blk t).view.emb y 1).val % 36864 = (y 1).val; rw [hb1]; omega
  have hp : pt4Of (((cfg0.win 4).blk t).view.emb y) = t.val := by
    exact hr
  show (Pipeline.accAt (fun n h => stAt0 m c n h junk0) (stAt0 m c) 0 t.val _).2.1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S3072x36864.Idx) :
    i ∈ ((cfg0.win 4).blk t).view.set ↔ ∀ a : Fin 2, win0_4.index t a * S32x36864.size a ≤ (i a).val ∧ (i a).val < win0_4.index t a * S32x36864.size a + S32x36864.size a := by
  show i ∈ ((View.whole main_v3_1).slice (win0_4.rect t)).set ↔ _
  rw [View.set_slice_whole, Rect.mem_set_unit]
  exact Iff.rfl

/-- THE COVERED INDICES: in some flushing point's block iff inside the box those blocks fill. -/
theorem covered_iff4 (i : S3072x36864.Idx) :
    (∃ t : Fin cfg0.N, (cfg0.win 4).flush t = true ∧ i ∈ ((cfg0.win 4).blk t).view.set) ↔ 0 ≤ (i 0).val ∧ (i 0).val < 3072 ∧ 0 ≤ (i 1).val ∧ (i 1).val < 36864 := by
  constructor
  · rintro ⟨t, -, hi⟩
    rw [mem_blk4] at hi
    have b0 : win0_4.index t (0 : Fin 2) * 32 ≤ (i 0).val ∧ (i 0).val < win0_4.index t (0 : Fin 2) * 32 + 32 := hi 0
    have b1 : win0_4.index t (1 : Fin 2) * 36864 ≤ (i 1).val ∧ (i 1).val < win0_4.index t (1 : Fin 2) * 36864 + 36864 := hi 1
    obtain ⟨e0, e1, e2⟩ := idx_facts4 t
    omega
  · intro h
    have hi0 : (i 0).val < 3072 := (i 0).isLt
    have hi1 : (i 1).val < 36864 := (i 1).isLt
    obtain ⟨t, hft, ht⟩ := idx_onto4 ⟨(i 0).val / 32 - 0, by omega⟩ ⟨(i 1).val / 36864 - 0, by omega⟩
    have q0 : win0_4.index t (0 : Fin 2) = (i 0).val / 32 - 0 + 0 := congrFun ht 0
    have q1 : win0_4.index t (1 : Fin 2) = (i 1).val / 36864 - 0 + 0 := congrFun ht 1
    refine ⟨t, hft, ?_⟩
    rw [mem_blk4]
    intro a
    match a with
    | ⟨0, _⟩ => show win0_4.index t (0 : Fin 2) * 32 ≤ (i 0).val ∧ (i 0).val < win0_4.index t (0 : Fin 2) * 32 + 32; omega
    | ⟨1, _⟩ => show win0_4.index t (1 : Fin 2) * 36864 ≤ (i 1).val ∧ (i 1).val < win0_4.index t (1 : Fin 2) * 36864 + 36864; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 3072 := (i 0).isLt; have h1 : (i 1).val < 36864 := (i 1).isLt; omega))

/-! ## Output window 5 -/

/-- The block of the array that holds index `i`, numbered in the order the points write the blocks back (one every 96 points),
    `i`'s place in it, and the point that writes it back (the last of its 96). -/
abbrev run5Of (i : S24x128.Idx) : ℕ := 1 * ((i 0).val / 24 - 0) + 1 * ((i 1).val / 128 - 0)
set_option backward.proofsInPublic true in
abbrev loc5Of (i : S24x128.Idx) : S24x128.Idx := fun a => match a with
  | ⟨0, _⟩ => ⟨(i 0).val % 24, Nat.mod_lt _ (by decide)⟩
  | ⟨1, _⟩ => ⟨(i 1).val % 128, Nat.mod_lt _ (by decide)⟩
abbrev pt5Of (i : S24x128.Idx) : ℕ := 96 * run5Of i + 95

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v3_2) := fun i =>
  if h : pt5Of i < cfg0.N then
    (Pipeline.accAt (fun n h => stAt0 m c n h junk0) (stAt0 m c) 0 (pt5Of i) (by omega)).2.2.1 (loc5Of i)
  else V m c (Pipeline.arrRef spec0 5) i

/-- The printed index map, decided over the grid: output window 5's block indices stay in the box, and the block number
    read off them is the point's (`t / 96`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 96 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨96 * (1 * q0.val + 1 * q1.val) + 95, lt_of_lt_of_eq (by omega) N_0.symm⟩
/-- The block of the scales is written by a step. -/
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 96 = 95 := (flush0_5 t).mp hf
  obtain ⟨e0, e1, e2⟩ := idx_facts5 t
  funext y
  have hy0 : (y 0).val < 24 := (y 0).isLt
  have hy1 : (y 1).val < 128 := (y 1).isLt
  have hb0 : (((cfg0.win 5).blk t).view.emb y 0).val = win0_5.index t (0 : Fin 2) * 24 + 1 * (y 0).val := rfl
  have hb1 : (((cfg0.win 5).blk t).view.emb y 1).val = win0_5.index t (1 : Fin 2) * 128 + 1 * (y 1).val := rfl
  have hr : run5Of (((cfg0.win 5).blk t).view.emb y) = t.val / 96 := by
    show 1 * ((((cfg0.win 5).blk t).view.emb y 0).val / 24 - 0) + 1 * ((((cfg0.win 5).blk t).view.emb y 1).val / 128 - 0) = _
    rw [hb0, hb1]
    rw [show (win0_5.index t (0 : Fin 2) * 24 + 1 * (y 0).val) / 24 = win0_5.index t (0 : Fin 2) from by omega]; rw [show (win0_5.index t (1 : Fin 2) * 128 + 1 * (y 1).val) / 128 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 24 = (y 0).val; rw [hb0]; omega
    | ⟨1, _⟩ => show (((cfg0.win 5).blk t).view.emb y 1).val % 128 = (y 1).val; rw [hb1]; omega
  have hp : pt5Of (((cfg0.win 5).blk t).view.emb y) = t.val := by
    show 96 * run5Of (((cfg0.win 5).blk t).view.emb y) + 95 = _
    rw [hr]; have := Nat.div_add_mod t.val 96; omega
  show (Pipeline.accAt (fun n h => stAt0 m c n h junk0) (stAt0 m c) 0 t.val _).2.2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S24x128.Idx) :
    i ∈ ((cfg0.win 5).blk t).view.set ↔ ∀ a : Fin 2, win0_5.index t a * S24x128.size a ≤ (i a).val ∧ (i a).val < win0_5.index t a * S24x128.size a + S24x128.size a := by
  show i ∈ ((View.whole main_v3_2).slice (win0_5.rect t)).set ↔ _
  rw [View.set_slice_whole, Rect.mem_set_unit]
  exact Iff.rfl

/-- THE COVERED INDICES: in some flushing point's block iff inside the box those blocks fill. -/
theorem covered_iff5 (i : S24x128.Idx) :
    (∃ t : Fin cfg0.N, (cfg0.win 5).flush t = true ∧ i ∈ ((cfg0.win 5).blk t).view.set) ↔ 0 ≤ (i 0).val ∧ (i 0).val < 24 ∧ 0 ≤ (i 1).val ∧ (i 1).val < 128 := by
  constructor
  · rintro ⟨t, -, hi⟩
    rw [mem_blk5] at hi
    have b0 : win0_5.index t (0 : Fin 2) * 24 ≤ (i 0).val ∧ (i 0).val < win0_5.index t (0 : Fin 2) * 24 + 24 := hi 0
    have b1 : win0_5.index t (1 : Fin 2) * 128 ≤ (i 1).val ∧ (i 1).val < win0_5.index t (1 : Fin 2) * 128 + 128 := hi 1
    obtain ⟨e0, e1, e2⟩ := idx_facts5 t
    omega
  · intro h
    have hi0 : (i 0).val < 24 := (i 0).isLt
    have hi1 : (i 1).val < 128 := (i 1).isLt
    obtain ⟨t, hft, ht⟩ := idx_onto5 ⟨(i 0).val / 24 - 0, by omega⟩ ⟨(i 1).val / 128 - 0, by omega⟩
    have q0 : win0_5.index t (0 : Fin 2) = (i 0).val / 24 - 0 + 0 := congrFun ht 0
    have q1 : win0_5.index t (1 : Fin 2) = (i 1).val / 128 - 0 + 0 := congrFun ht 1
    refine ⟨t, hft, ?_⟩
    rw [mem_blk5]
    intro a
    match a with
    | ⟨0, _⟩ => show win0_5.index t (0 : Fin 2) * 24 ≤ (i 0).val ∧ (i 0).val < win0_5.index t (0 : Fin 2) * 24 + 24; omega
    | ⟨1, _⟩ => show win0_5.index t (1 : Fin 2) * 128 ≤ (i 1).val ∧ (i 1).val < win0_5.index t (1 : Fin 2) * 128 + 128; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 24 := (i 0).isLt; have h1 : (i 1).val < 128 := (i 1).isLt; omega))

/-- Output 5 is written back ONCE, at the last point, and its block is its array: the array after the run is output 5's
    component of the fold over the whole grid — where a hand proof over this window starts. -/
theorem G5_last (c : Dev nD) :
    G5 m c = (Pipeline.accAt (fun n h => stAt0 m c n h junk0) (stAt0 m c) 0 95 (lt_of_lt_of_eq (by decide) N_0.symm)).2.2.1 := by
  funext i
  have hi0 : (i 0).val < 24 := (i 0).isLt
  have hi1 : (i 1).val < 128 := (i 1).isLt
  have hp : pt5Of i = 95 := by
    show 96 * (1 * ((i 0).val / 24 - 0) + 1 * ((i 1).val / 128 - 0)) + 95 = _
    omega
  have hl : loc5Of i = i := by
    funext a; apply Fin.ext
    match a with
    | ⟨0, _⟩ => show (i 0).val % 24 = (i 0).val; omega
    | ⟨1, _⟩ => show (i 1).val % 128 = (i 1).val; omega
  unfold G5
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v3_0) = G3 m c
      ∧ r.2.mem ((c : Thread nD τ).loc main_v3_1) = G4 m c
      ∧ r.2.mem ((c : Thread nD τ).loc main_v3_2) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post3 m r h c).trans (final3 m c),
      (post4 m r h c).trans (final4 m c),
      (post5 m r h c).trans (final5 m c),
      kept_main_arg0 m r h c,
      kept_main_arg1 m r h c,
      kept_main_arg2 m r h c⟩)
    (run_main m ρ)

end Cert.KernelIdeal.Value

end
-- ==== Proof.Math.Result.lean ====
/- The problem's three results as functions of the arguments, row by row: the rows are numbered through the batch, and the
   scales are laid out 128 to a row. -/
module

public import proofs.«01_k».proof.Proof.Math.Row
public import Idealize.ShloMosaic.Lib.Pointwise.Index

@[expose] public section

noncomputable section

namespace Cert.Norm

open Idealize.ShloMosaic

/-- The two activations' indices. -/
abbrev SX : Shape := ⟨3, ![3, 1024, 36864]⟩
/-- The gain's indices. -/
abbrev SG : Shape := ⟨1, ![36864]⟩

/-- The place of entry `d` of row `n` in an activation. -/
def at3 (n : Fin 3072) (d : Fin 36864) : SX.Idx :=
  ix3 (⟨n.val / 1024, by have := n.isLt; omega⟩ : Fin 3) (⟨n.val % 1024, by omega⟩ : Fin 1024) d
/-- Row `n` of the sum of the activations. -/
def rowOf (x r : SX.Idx → EReal) (n : Fin 3072) (d : Fin 36864) : EReal := x (at3 n d) + r (at3 n d)
/-- The gain. -/
def gOf (g : SG.Idx → EReal) (d : Fin 36864) : EReal := g (ix1 d)

/-- The new residual. -/
def resSum (x r : SX.Idx → EReal) : (⟨2, ![3072, 36864]⟩ : Shape).Idx → EReal := fun y => rowOf x r (y 0) (y 1)
/-- The codes. -/
def resCodes (x r : SX.Idx → EReal) (g : SG.Idx → EReal) : (⟨2, ![3072, 36864]⟩ : Shape).Idx → EReal := fun y =>
  code (yv (rowOf x r (y 0)) (gOf g) (y 1)) (kinv (zv (rowOf x r (y 0)) (gOf g)))
/-- The row whose scale stands at lane `l` of row `a`. -/
def scaleRow (a : Fin 24) (l : Fin 128) : Fin 3072 := ⟨128 * a.val + l.val, by have := a.isLt; have := l.isLt; omega⟩
/-- The scales. -/
def resScales (x r : SX.Idx → EReal) (g : SG.Idx → EReal) : (⟨2, ![24, 128]⟩ : Shape).Idx → EReal := fun y =>
  kscale (zv (rowOf x r (scaleRow (y 0) (y 1))) (gOf g))

end Cert.Norm

end
-- ==== Proof.KernelIdeal.Arrays.lean ====
/- The three result arrays of the kernel as functions of its arguments: the blocks the steps read, the gain's scratch at
   every step, the scales gathered step after step. -/
module

public import proofs.«01_k».proof.Proof.KernelIdeal.Step
public import proofs.«01_k».proof.Proof.KernelIdeal.Value
public import proofs.«01_k».proof.Proof.Math.Result
public import Idealize.ShloMosaic.Lib.StableHlo.RunRead

@[expose] public section

set_option maxRecDepth 16384

noncomputable section

namespace Cert.KernelIdeal.Val

open Cert.KernelIdeal Cert.KernelIdeal.Gen Cert.KernelIdeal.Value Idealize.ShloMosaic Idealize.ShloMosaic.TcCoe Idealize.SL.Sem
open Cert.Norm (rowOf gOf at3 resSum resCodes resScales scaleRow)

variable (m : (ℓ : Loc nD τ sig) → Buf (Elt Ideal) ℓ)

/-- The first activation. -/
abbrev aX (c : Dev nD) : Norm.SX.Idx → EReal := m ((c : Thread nD τ).loc main_arg0)
/-- The second activation. -/
abbrev aR (c : Dev nD) : Norm.SX.Idx → EReal := m ((c : Thread nD τ).loc main_arg1)
/-- The gain. -/
abbrev aG (c : Dev nD) : Norm.SG.Idx → EReal := m ((c : Thread nD τ).loc main_arg2)

/-! ## What the region reads -/

/-- The launch reads x as rows. -/
theorem V_v0 (c : Dev nD) : V m c main_v0 = shapeCast S3072x36864 (aX m c) shapeCasts_S3x1024x36864_S3072x36864 := by
  unfold V; after_reads_simp; rfl
/-- The launch reads the residual as rows. -/
theorem V_v1 (c : Dev nD) : V m c main_v1 = shapeCast S3072x36864 (aR m c) shapeCasts_S3x1024x36864_S3072x36864 := by
  unfold V; after_reads_simp; rfl
/-- The launch reads gamma as one row. -/
theorem V_v2 (c : Dev nD) : V m c main_v2 = shapeCast S1x36864 (aG m c) shapeCasts_S36864_S1x36864 := by
  unfold V; after_reads_simp; rfl

/-- An activation with its rows numbered through the batch. -/
theorem flat_at (v : FVec Ideal S3x1024x36864 .bf16) (n : Fin 3072) (d : Fin 36864) :
    shapeCast S3072x36864 v shapeCasts_S3x1024x36864_S3072x36864 (ix2 n d) = v (at3 n d) := by
  refine shapeCast_apply _ _ _ _ ?_
  rw [Shape.rowMajor_val_two, Shape.rowMajor_val_three]
  show (n.val / 1024 * 1024 + n.val % 1024) * 36864 + d.val = n.val * 36864 + d.val
  omega
/-- Gamma as one row, at an entry. -/
theorem gain_at (v : FVec Ideal S36864 .bf16) (a : Fin 1) (d : Fin 36864) :
    shapeCast S1x36864 v shapeCasts_S36864_S1x36864 (ix2 a d) = v (ix1 d) := by
  refine shapeCast_apply _ _ _ _ ?_
  rw [Shape.rowMajor_val_two, Shape.rowMajor_val_one]
  show d.val = a.val * 36864 + d.val
  have := a.isLt; omega

/-- Step `t` reads the `t`-th block of x. -/
theorem idx0 : ∀ t : Fin cfg0.N, win0_0.index t = ![t.val, 0] := (by decide +kernel : ∀ t : Fin grid0.N, win0_0.index t = ![t.val, 0])
/-- Step `t` reads the `t`-th block of the residual. -/
theorem idx1 : ∀ t : Fin cfg0.N, win0_1.index t = ![t.val, 0] := (by decide +kernel : ∀ t : Fin grid0.N, win0_1.index t = ![t.val, 0])
/-- Every step reads the whole of gamma. -/
theorem idx2 : ∀ t : Fin cfg0.N, win0_2.index t = ![0, 0] := (by decide +kernel : ∀ t : Fin grid0.N, win0_2.index t = ![0, 0])

/-- There are 96 steps. -/
theorem lt96 (t : Fin cfg0.N) : t.val < 96 := lt_of_lt_of_eq t.isLt (show cfg0.N = 96 from N_0)

/-- The row of the batch that is row `ρ` of step `t`'s block. -/
def stepRow (t : Fin cfg0.N) (ρ : Fin 32) : Fin 3072 := ⟨32 * t.val + ρ.val, by have := lt96 t; have := ρ.isLt; omega⟩

/-- The block of x of a step, at an entry. -/
theorem iblk0_at (c : Dev nD) (t : Fin cfg0.N) (ρ : Fin 32) (d : Fin 36864) :
    (iblk m c 0 t : Vec Ideal S32x36864 .bf16) (ix2 ρ d) = aX m c (at3 (stepRow t ρ) d) := by
  refine Eq.trans ?_ (flat_at (aX m c) (stepRow t ρ) d)
  rw [← V_v0]
  show V m c main_v0 (((cfg0.win 0).blk t).view.emb (ix2 ρ d)) = _
  refine congrArg (V m c main_v0) (funext fun a => Fin.ext ?_)
  have h := idx0 t
  match a with
  | ⟨0, _⟩ => show win0_0.index t (0 : Fin 2) * 32 + 1 * ρ.val = 32 * t.val + ρ.val; rw [h]; show t.val * 32 + 1 * ρ.val = _; omega
  | ⟨1, _⟩ => show win0_0.index t (1 : Fin 2) * 36864 + 1 * d.val = d.val; rw [h]; show 0 * 36864 + 1 * d.val = _; omega
/-- The block of the residual of a step, at an entry. -/
theorem iblk1_at (c : Dev nD) (t : Fin cfg0.N) (ρ : Fin 32) (d : Fin 36864) :
    (iblk m c 1 t : Vec Ideal S32x36864 .bf16) (ix2 ρ d) = aR m c (at3 (stepRow t ρ) d) := by
  refine Eq.trans ?_ (flat_at (aR m c) (stepRow t ρ) d)
  rw [← V_v1]
  show V m c main_v1 (((cfg0.win 1).blk t).view.emb (ix2 ρ d)) = _
  refine congrArg (V m c main_v1) (funext fun a => Fin.ext ?_)
  have h := idx1 t
  match a with
  | ⟨0, _⟩ => show win0_1.index t (0 : Fin 2) * 32 + 1 * ρ.val = 32 * t.val + ρ.val; rw [h]; show t.val * 32 + 1 * ρ.val = _; omega
  | ⟨1, _⟩ => show win0_1.index t (1 : Fin 2) * 36864 + 1 * d.val = d.val; rw [h]; show 0 * 36864 + 1 * d.val = _; omega
/-- The block of gamma of a step, at an entry. -/
theorem iblk2_at (c : Dev nD) (t : Fin cfg0.N) (a : Fin 1) (d : Fin 36864) :
    (iblk m c 2 t : Vec Ideal S1x36864 .bf16) (ix2 a d) = aG m c (ix1 d) := by
  refine Eq.trans ?_ (gain_at (aG m c) a d)
  rw [← V_v2]
  show V m c main_v2 (((cfg0.win 2).blk t).view.emb (ix2 a d)) = _
  refine congrArg (V m c main_v2) (funext fun b => Fin.ext ?_)
  have h := idx2 t
  match b with
  | ⟨0, _⟩ => show win0_2.index t (0 : Fin 2) * 1 + 1 * a.val = a.val; rw [h]; show 0 * 1 + 1 * a.val = _; omega
  | ⟨1, _⟩ => show win0_2.index t (1 : Fin 2) * 36864 + 1 * d.val = d.val; rw [h]; show 0 * 36864 + 1 * d.val = _; omega

/-- A row of a step's blocks is a row of the problem. -/
theorem step_row (c : Dev nD) (t : Fin cfg0.N) (ρ : Fin 32) :
    rowB (iblk m c 0 t) (iblk m c 1 t) ρ = rowOf (aX m c) (aR m c) (stepRow t ρ) := by
  funext d
  exact congrArg₂ (fun a b : EReal => a + b) (iblk0_at m c t ρ d) (iblk1_at m c t ρ d)

/-! ## The carried buffers -/

/-- The gain as the scratch holds it. -/
def gS (c : Dev nD) : Vec Ideal S1x36864 .f32 := fun y => aG m c (ix1 (y 1))
/-- The scratch's row is gamma. -/
theorem gRow_gS (c : Dev nD) : gRow (gS m c) = gOf (aG m c) := rfl
/-- Gamma's copy is the same whichever step's block it is made from. -/
theorem gB_eq (c : Dev nD) (t : Fin cfg0.N) : gB (iblk m c 2 t) = gS m c := by
  funext y
  obtain ⟨a, d, rfl⟩ : ∃ (a : Fin 1) (d : Fin 36864), y = ix2 a d := ⟨y 0, y 1, eq_ix2 y⟩
  exact iblk2_at m c t a d

/-- The grid's coordinate is the step's number. -/
theorem coord (t : Fin cfg0.N) : (grid0.coords t 0).val = t.val := by
  have e : (grid0.coords t 0).val = t.val / 1 % 96 := Pipeline.Grid.coords_val t 0 (by decide) rfl
  have := lt96 t
  rw [e]; omega

/-- The scratch holds the gain after every step. -/
theorem scratch_eq (c : Dev nD) (n : ℕ) (hn : n < cfg0.N) : (outsAt0 m c n hn).2.2.2 = gS m c := by
  induction n with
  | zero =>
    rw [outsAt0_zero, stAt0_A m c ⟨0, hn⟩ _ (Nat.zero_mod _)]
    dsimp only
    rw [soutA_eq, gB_eq]
  | succ n ih =>
    have hN := lt96 ⟨n + 1, hn⟩
    rw [outsAt0_succ, stAt0_B m c ⟨n + 1, hn⟩ _ (by show ¬ (n + 1) % 96 = 0; have : n + 1 < 96 := hN; omega)]
    exact ih (Nat.lt_of_succ_lt hn)

/-- The new residual's block after a step. -/
theorem block3 (c : Dev nD) (t : Fin cfg0.N) : (outsAt0 m c t.val t.isLt).1 = nrB (iblk m c 0 t) (iblk m c 1 t) := by
  by_cases h : t.val % 96 = 0
  · rw [outsAt0_A m c t h]
    exact outA3_eq _ _ _ _ _ _ _ _ _ _ _ _ _ _ _ _ _ _ _ _
  · rw [outsAt0_B m c t h]
    exact outB3_eq _ _ _ _ _ _ _ _ _ _ _ _ _ _ _ _ _ _ _ _ _ _

/-- The codes' block after a step. -/
theorem block4 (c : Dev nD) (t : Fin cfg0.N) : (outsAt0 m c t.val t.isLt).2.1 = cdB (iblk m c 0 t) (iblk m c 1 t) (gS m c) := by
  by_cases h : t.val % 96 = 0
  · rw [outsAt0_A m c t h]
    refine (outA4_eq _ _ _ _ _ _ _ _ _ _ _ _ _ _ _ _ _ _ _ _).trans ?_
    rw [gB_eq]
  · rw [outsAt0_B m c t h]
    refine (outB4_eq _ _ _ _ _ _ _ _ _ _ _ _ _ _ _ _ _ _ _ _ _ _).trans ?_
    rw [scratch_eq]

/-- The scales after step `n`: those of the rows met so far, zero elsewhere. -/
def scAfter (c : Dev nD) (n : ℕ) : Vec Ideal S24x128 .f32 := fun y =>
  if 4 * (y 0).val + (y 1).val / 32 ≤ n then resScales (aX m c) (aR m c) (aG m c) y else 0

/-- The row a step adds to the scales: the scale of the token whose lane it is, zero at the other lanes. -/
theorem rowAdd_eq (c : Dev nD) (t : Fin cfg0.N) (y : S24x128.Idx) (hy : (y 0).val = t.val / 4) :
    rowAdd (iblk m c 0 t) (iblk m c 1 t) (gS m c) t.val (y 1)
      = if (y 1).val / 32 = t.val % 4 then resScales (aX m c) (aR m c) (aG m c) y else 0 := by
  have hl : (y 1).val < 128 := (y 1).isLt
  unfold rowAdd
  by_cases h : (y 1).val / 32 = t.val % 4
  · rw [if_pos h]
    have h32 : (y 1).val % 32 < 32 := Nat.mod_lt _ (by decide)
    rw [Finset.sum_eq_single (⟨(y 1).val % 32, h32⟩ : Fin 32)]
    · rw [if_pos (by show (y 1).val = (y 1).val % 32 + t.val % 4 * 32; omega), step_row, gRow_gS]
      unfold resScales
      refine congrArg (fun n => Norm.kscale (Norm.zv (rowOf (aX m c) (aR m c) n) (gOf (aG m c)))) (Fin.ext ?_)
      show 32 * t.val + (y 1).val % 32 = 128 * (y 0).val + (y 1).val
      omega
    · intro b _ hb
      refine if_neg fun hp => hb (Fin.ext ?_)
      have hp' : (y 1).val = b.val + t.val % 4 * 32 := hp
      have := b.isLt
      show b.val = (y 1).val % 32
      omega
    · intro hb; exact absurd (Finset.mem_univ _) hb
  · rw [if_neg h]
    refine Finset.sum_eq_zero fun b _ => if_neg fun hp => h ?_
    have hp' : (y 1).val = b.val + t.val % 4 * 32 := hp
    have := b.isLt
    omega

/-- One step of the scales. -/
theorem updB_eq (c : Dev nD) (t : Fin cfg0.N) (prev : Vec Ideal S24x128 .f32)
    (h : ∀ y : S24x128.Idx, prev y = if 4 * (y 0).val + (y 1).val / 32 < t.val then resScales (aX m c) (aR m c) (aG m c) y else 0) :
    updB (iblk m c 0 t) (iblk m c 1 t) (gS m c) (grid0.coords t 0).val prev = scAfter m c t.val := by
  rw [coord]
  funext y
  have hl : (y 1).val < 128 := (y 1).isLt
  unfold updB scAfter
  by_cases hr : (y 0).val = t.val / 4
  · rw [if_pos hr, rowAdd_eq m c t y hr, h y]
    rcases lt_trichotomy ((y 1).val / 32) (t.val % 4) with hc | hc | hc
    · rw [if_pos (by omega), if_neg (by omega), if_pos (by omega)]; exact add_zero _
    · rw [if_neg (by omega), if_pos hc, if_pos (by omega)]; exact zero_add _
    · rw [if_neg (by omega), if_neg (by omega), if_neg (by omega)]; exact add_zero _
  · rw [if_neg hr, h y]
    by_cases hc : 4 * (y 0).val + (y 1).val / 32 < t.val
    · rw [if_pos hc, if_pos hc.le]
    · rw [if_neg hc, if_neg (by omega)]

/-- The scales after every step. -/
theorem scales_eq (c : Dev nD) (n : ℕ) (hn : n < cfg0.N) : (outsAt0 m c n hn).2.2.1 = scAfter m c n := by
  induction n with
  | zero =>
    rw [outsAt0_zero, stAt0_A m c ⟨0, hn⟩ _ (Nat.zero_mod _)]
    refine (outA5_eq _ _ _ _ _ _ _ _ _ _ _ _ _ _ _ _ _ _ _ ((hcond0_0 ⟨0, hn⟩).mpr (Nat.zero_mod _))).trans ?_
    rw [gB_eq]
    exact updB_eq m c ⟨0, hn⟩ _ fun y => (if_neg (Nat.not_lt_zero _)).symm
  | succ n ih =>
    have hN := lt96 ⟨n + 1, hn⟩
    have hs := scratch_eq m c n (Nat.lt_of_succ_lt hn)
    have ih' := ih (Nat.lt_of_succ_lt hn)
    rw [outsAt0_succ, stAt0_B m c ⟨n + 1, hn⟩ _ (by show ¬ (n + 1) % 96 = 0; have : n + 1 < 96 := hN; omega)]
    refine (outB5_eq _ _ _ _ _ _ _ _ _ _ _ _ _ _ _ _ _ _ _ _ _ _).trans ?_
    rw [hs, ih']
    refine updB_eq m c ⟨n + 1, hn⟩ _ fun y => ?_
    unfold scAfter
    by_cases hc : 4 * (y 0).val + (y 1).val / 32 ≤ n
    · rw [if_pos hc, if_pos (Nat.lt_succ_of_le hc)]
    · rw [if_neg hc, if_neg (fun h => hc (Nat.le_of_lt_succ h))]

/-! ## The arrays -/

/-- The step that writes a row is one of the grid. -/
theorem pt_lt (i : S3072x36864.Idx) : (i 0).val / 32 < cfg0.N := by
  have hi0 : (i 0).val < 3072 := (i 0).isLt
  rw [show cfg0.N = 96 from N_0]; omega

/-- The new residual. -/
theorem G3_eq (c : Dev nD) : G3 m c = resSum (aX m c) (aR m c) := by
  funext i
  have hi0 : (i 0).val < 3072 := (i 0).isLt
  have hi1 : (i 1).val < 36864 := (i 1).isLt
  have hlt := pt_lt i
  have hp : pt3Of i = (i 0).val / 32 := by
    show 1 * ((i 0).val / 32 - 0) + 1 * ((i 1).val / 36864 - 0) = _; omega
  have hl : loc3Of i = ix2 ⟨(i 0).val % 32, Nat.mod_lt _ (by decide)⟩ (i 1) := by
    funext a; apply Fin.ext
    match a with
    | ⟨0, _⟩ => rfl
    | ⟨1, _⟩ => show (i 1).val % 36864 = (i 1).val; omega
  unfold G3
  rw [dif_pos (by rw [hp]; exact hlt), fold0_congr m c _ _ ((i 0).val / 32) (by omega) hp, ← outsAt0_sweep m c _ hlt, hl,
    block3 m c ⟨(i 0).val / 32, hlt⟩]
  have := congrFun (step_row m c ⟨(i 0).val / 32, hlt⟩ ⟨(i 0).val % 32, Nat.mod_lt _ (by decide)⟩) (i 1)
  refine this.trans ?_
  unfold resSum
  refine congrArg (fun n => rowOf (aX m c) (aR m c) n (i 1)) (Fin.ext ?_)
  show 32 * ((i 0).val / 32) + (i 0).val % 32 = (i 0).val
  omega

/-- The codes. -/
theorem G4_eq (c : Dev nD) : G4 m c = resCodes (aX m c) (aR m c) (aG m c) := by
  funext i
  have hi0 : (i 0).val < 3072 := (i 0).isLt
  have hi1 : (i 1).val < 36864 := (i 1).isLt
  have hlt := pt_lt i
  have hp : pt4Of i = (i 0).val / 32 := by
    show 1 * ((i 0).val / 32 - 0) + 1 * ((i 1).val / 36864 - 0) = _; omega
  have hl : loc4Of i = ix2 ⟨(i 0).val % 32, Nat.mod_lt _ (by decide)⟩ (i 1) := by
    funext a; apply Fin.ext
    match a with
    | ⟨0, _⟩ => rfl
    | ⟨1, _⟩ => show (i 1).val % 36864 = (i 1).val; omega
  unfold G4
  rw [dif_pos (by rw [hp]; exact hlt), fold0_congr m c _ _ ((i 0).val / 32) (by omega) hp, ← outsAt0_sweep m c _ hlt, hl,
    block4 m c ⟨(i 0).val / 32, hlt⟩]
  have hrow : rowB (iblk m c 0 ⟨(i 0).val / 32, hlt⟩) (iblk m c 1 ⟨(i 0).val / 32, hlt⟩) ⟨(i 0).val % 32, Nat.mod_lt _ (by decide)⟩
      = rowOf (aX m c) (aR m c) (i 0) := by
    rw [step_row]
    refine congrArg (rowOf (aX m c) (aR m c)) (Fin.ext ?_)
    show 32 * ((i 0).val / 32) + (i 0).val % 32 = (i 0).val
    omega
  unfold cdB resCodes
  show Norm.code (Norm.yv (rowB _ _ ⟨(i 0).val % 32, _⟩) (gRow (gS m c)) (i 1)) (Norm.kinv (Norm.zv (rowB _ _ ⟨(i 0).val % 32, _⟩) (gRow (gS m c)))) = _
  rw [hrow, gRow_gS]

/-- The scales. -/
theorem G5_eq (c : Dev nD) : G5 m c = resScales (aX m c) (aR m c) (aG m c) := by
  rw [G5_last, ← outsAt0_sweep m c 95 (lt_of_lt_of_eq (by decide) N_0.symm), scales_eq]
  funext y
  have h0 : (y 0).val < 24 := (y 0).isLt
  have h1 : (y 1).val < 128 := (y 1).isLt
  exact if_pos (by omega)

end Cert.KernelIdeal.Val

end
-- ==== Proof.ReferenceIdeal.Host.lean ====
/- What the reference's arrays hold: its operations composed into whole arrays, in the order it states them. -/
module

public import proofs.«01_k».proof.Proof.Gen.ReferenceIdeal.Value
public import proofs.«01_k».proof.Proof.Math.Result
public import Idealize.ShloMosaic.Lib.StableHlo.RunRead

@[expose] public section

set_option maxRecDepth 16384

noncomputable section

namespace Cert.ReferenceIdeal.Val

open Cert.ReferenceIdeal Cert.ReferenceIdeal.Gen Idealize.ShloMosaic Idealize.ShloMosaic.TcCoe Idealize.SL.Sem

/-- A constant at every row. -/
abbrev cst1 (b : BitVec 32) : FVec Ideal S3x1024x1 .f32 := broadcastInDim S3x1024x1 ![] bcast_S_S3x1024x1 (constant (F := Ideal) S_ .f32 b)

variable (x r : FVec Ideal S3x1024x36864 .bf16) (g : FVec Ideal S36864 .bf16)

/-- The new residual. -/
def nr : FVec Ideal S3x1024x36864 .bf16 := truncf .bf16 (addf (extf .f32 x bitsLt_bf16_f32) (extf .f32 r bitsLt_bf16_f32)) bitsLt_bf16_f32
/-- … read back at the wide format. -/
def nf : FVec Ideal S3x1024x36864 .f32 := extf .f32 (nr x r) bitsLt_bf16_f32
/-- The mean squares. -/
def ms : FVec Ideal S3x1024x1 .f32 :=
  Host.divf (broadcastInDim S3x1024x1 ![0, 1] bcast_S3x1024_S3x1024x1_0_1
    (Host.reduceAdd (mulf (nf x r) (nf x r)) (constant S_ .f32 0x00000000#32) reducesTo_S3x1024x36864_S3x1024_d2 h_S_)) (cst1 0x47100000#32)
/-- The inverse roots. -/
def iv : FVec Ideal S3x1024x1 .f32 := Host.rsqrt (addf (ms x r) (cst1 0x358637BD#32))
/-- The normalised rows. -/
def yy : FVec Ideal S3x1024x36864 .f32 :=
  mulf (mulf (nf x r) (broadcastInDim S3x1024x36864 ![0, 1, 2] bcast_S3x1024x1_S3x1024x36864_0_1_2 (iv x r)))
    (broadcastInDim S3x1024x36864 ![0, 1, 2] bcast_S1x1x36864_S3x1024x36864_0_1_2
      (broadcastInDim S1x1x36864 ![2] bcast_S36864_S1x1x36864_2 (extf .f32 g bitsLt_bf16_f32)))
/-- The largest magnitudes. -/
def am : FVec Ideal S3x1024x1 .f32 :=
  broadcastInDim S3x1024x1 ![0, 1] bcast_S3x1024_S3x1024x1_0_1
    (Host.reduce FloatOps.maximumf (Host.absf (yy x r g)) (constant S_ .f32 0xFF800000#32) reducesTo_S3x1024x36864_S3x1024_d2 h_S_)
/-- The exponents. -/
def ex : FVec Ideal S3x1024x1 .f32 :=
  select (cmpf .oeq (am x r g) (cst1 0x00000000#32)) (broadcastInDim S3x1024x1 ![] bcast_S_S3x1024x1 (id (constant (F := Ideal) S_ .f32 0x00000000#32)))
    (maximumf (addf (Host.floor (Host.divf (Host.log (mulf (am x r g) (cst1 0x3B124925#32)))
      (broadcastInDim S3x1024x1 ![] bcast_S_S3x1024x1 (id (Host.log (constant S_ .f32 0x40000000#32)))))) (cst1 0x3F800000#32)) (cst1 0xC2FC0000#32))
/-- The scales. -/
def sc : FVec Ideal S3x1024x1 .f32 := Host.powf (cst1 0x40000000#32) (ex x r g)
/-- The inverse scales. -/
def isc : FVec Ideal S3x1024x1 .f32 := Host.powf (cst1 0x40000000#32) (Host.negf (ex x r g))
/-- A bound at every entry. -/
abbrev cst3 (b : BitVec 32) : FVec Ideal S3x1024x36864 .f32 := broadcastInDim S3x1024x36864 ![] bcast_S_S3x1024x36864 (id (constant (F := Ideal) S_ .f32 b))
/-- The clipped rows. -/
def cv : FVec Ideal S3x1024x36864 .f32 :=
  minimumf (cst3 0x43E00000#32) (maximumf (cst3 0xC3E00000#32)
    (mulf (yy x r g) (broadcastInDim S3x1024x36864 ![0, 1, 2] bcast_S3x1024x1_S3x1024x36864_0_1_2 (isc x r g))))

variable (m : (ℓ : Loc nD τ sig) → Buf (Elt Ideal) ℓ) (c : Dev nD)

/-- The first activation. -/
abbrev aX : FVec Ideal S3x1024x36864 .bf16 := m ((c : Thread nD τ).loc main_arg0)
/-- The second activation. -/
abbrev aR : FVec Ideal S3x1024x36864 .bf16 := m ((c : Thread nD τ).loc main_arg1)
/-- The gain. -/
abbrev aG : FVec Ideal S36864 .bf16 := m ((c : Thread nD τ).loc main_arg2)

/-- The new residual, as rows. -/
theorem V_v45 : V m c main_v45 = shapeCast S3072x36864 (nr (aX m c) (aR m c)) shapeCasts_S3x1024x36864_S3072x36864 := by
  unfold V; after_reads_simp; rfl
/-- The scales, 128 to a row. -/
theorem V_v46 : V m c main_v46 = shapeCast S24x128 (sc (aX m c) (aR m c) (aG m c)) shapeCasts_S3x1024x1_S24x128 := by
  unfold V; after_reads_simp
  simp -implicitDefEqProofs only [StableHlo.TRef.toBuf, StableHlo.TRef.ofBuf, cast_cast, cast_eq]
  unfold sc ex am yy iv ms nf nr
  rfl
/-- The clipped values, as rows. -/
theorem V_v47 : V m c main_v47 = shapeCast S3072x36864 (cv (aX m c) (aR m c) (aG m c)) shapeCasts_S3x1024x36864_S3072x36864 := by
  unfold V; after_reads_simp
  simp -implicitDefEqProofs only [StableHlo.TRef.toBuf, StableHlo.TRef.ofBuf, cast_cast, cast_eq]
  unfold cv isc ex am yy iv ms nf nr
  rfl

end Cert.ReferenceIdeal.Val

end
-- ==== Proof.ReferenceIdeal.Rows.lean ====
/- What the reference computes, one row at a time: each of its arrays read at an entry, in the words of the row's
   normalisation, largest magnitude, scale and codes. -/
module

public import proofs.«01_k».proof.Proof.ReferenceIdeal.Host
public import Idealize.ShloMosaic.Lib.KernelVsHost
public import Idealize.ShloMosaic.Lib.IdealHost

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Norm (rowOf gOf at3)

variable (x r : FVec Ideal S3x1024x36864 .bf16) (g : FVec Ideal S36864 .bf16)

/-- The row at batch `b`, position `s`. -/
def rw3 (b : Fin 3) (s : Fin 1024) (d : Fin 36864) : EReal := x (ix3 b s d) + r (ix3 b s d)

/-- The new residual in f32, at an entry. -/
theorem nf_at (b : Fin 3) (s : Fin 1024) (d : Fin 36864) : nf x r (ix3 b s d) = rw3 x r b s d := rfl

/-! ## Broadcasts and reductions, read at an entry -/

/-- A constant over the tokens, at an entry. -/
theorem cst1_at (v : BitVec 32) (j : S3x1024x1.Idx) : cst1 v j = Ideal.ofBits .f32 v := rfl
/-- A constant over the whole array, at an entry. -/
theorem cst3_at (v : BitVec 32) (j : S3x1024x36864.Idx) : cst3 v j = Ideal.ofBits .f32 v := rfl
/-- A scalar spread over the tokens, at an entry. -/
theorem scal_at (v : FVec Ideal S_ .f32) (j : S3x1024x1.Idx) : broadcastInDim S3x1024x1 ![] bcast_S_S3x1024x1 v j = v fun a => a.elim0 := by
  unfold broadcastInDim; exact congrArg v (funext fun a => a.elim0)

section
variable {s : Shape} (p q : FVec Ideal s .f32) (j : s.Idx)
/-- A product, at an entry. -/
theorem mulf_at : mulf p q j = ((p j * q j : EReal)) := rfl
/-- A sum, at an entry. -/
theorem addf_at : addf p q j = ((p j + q j : EReal)) := rfl
/-- A maximum of two, at an entry. -/
theorem max2_at : maximumf p q j = max (α := EReal) (p j) (q j) := rfl
/-- A minimum of two, at an entry. -/
theorem min2_at : minimumf p q j = min (α := EReal) (p j) (q j) := rfl
/-- A quotient, at an entry. -/
theorem divf_at : Host.divf p q j = Ideal.div (p j) (q j) := rfl
/-- A power, at an entry. -/
theorem powf_at : Host.powf p q j = Ideal.pow (p j) (q j) := rfl
/-- An inverse root, at an entry. -/
theorem rsqrt_at : Host.rsqrt p j = Ideal.rsqrt (p j) := rfl
/-- A logarithm, at an entry. -/
theorem log_at : Host.log p j = Ideal.log (p j) := rfl
/-- A floor, at an entry. -/
theorem floor_at : Host.floor p j = Ideal.liftRound Int.floor (p j) := rfl
/-- A negation, at an entry. -/
theorem negf_at : Host.negf p j = (-(p j : EReal) : EReal) := rfl
/-- A magnitude, at an entry. -/
theorem absf_at : Host.absf p j = Norm.mag (p j) := rfl
/-- A choice by equality, at an entry. -/
theorem sel_at (u v : FVec Ideal s .f32) : select (cmpf .oeq p q) u v j = Scalar.select (Ideal.cmp .oeq (p j) (q j)) (u j) (v j) := rfl
end

/-- A reduced array with its axis kept, at an entry. -/
theorem keep_at (v : FVec Ideal S3x1024 .f32) (b : Fin 3) (s : Fin 1024) :
    broadcastInDim S3x1024x1 ![0, 1] bcast_S3x1024_S3x1024x1_0_1 v (ix3 b s 0) = v (ix2 b s) :=
  broadcastInDim_apply _ _ _ _ _ (by intro a; match a with | ⟨0, _⟩ => rfl | ⟨1, _⟩ => rfl)
/-- A number per token spread over its row, at an entry. -/
theorem spread_at (v : FVec Ideal S3x1024x1 .f32) (b : Fin 3) (s : Fin 1024) (d : Fin 36864) :
    broadcastInDim S3x1024x36864 ![0, 1, 2] bcast_S3x1024x1_S3x1024x36864_0_1_2 v (ix3 b s d) = v (ix3 b s 0) :=
  broadcastInDim_apply _ _ _ _ _ (by intro a; match a with | ⟨0, _⟩ => rfl | ⟨1, _⟩ => rfl | ⟨2, _⟩ => rfl)
/-- Gamma spread over the tokens, at an entry. -/
theorem gain_at (v : FVec Ideal S36864 .f32) (b : Fin 3) (s : Fin 1024) (d : Fin 36864) :
    broadcastInDim S3x1024x36864 ![0, 1, 2] bcast_S1x1x36864_S3x1024x36864_0_1_2
      (broadcastInDim S1x1x36864 ![2] bcast_S36864_S1x1x36864_2 v) (ix3 b s d) = v (ix1 d) :=
  (broadcastInDim_apply _ _ _ _ (ix3 0 0 d) (by intro a; match a with | ⟨0, _⟩ => rfl | ⟨1, _⟩ => rfl | ⟨2, _⟩ => rfl)).trans
    (broadcastInDim_apply _ _ _ _ _ (by intro a; match a with | ⟨0, _⟩ => rfl))

/-- The last axis can be reduced. -/
theorem red2 : S3x1024x36864.Reduces [2] S3x1024 := by decide
/-- Which entry a reduction over the last axis reads. -/
theorem lift_at (h : S3x1024x36864.Reduces [2] S3x1024) (b : Fin 3) (s : Fin 1024) (k : Fin 36864) : h.lift (ix2 b s) k = ix3 b s k := by
  funext a; match a with | ⟨0, _⟩ => rfl | ⟨1, _⟩ => rfl | ⟨2, _⟩ => rfl

/-- A sum over the last axis, at a token. -/
theorem sum_at (v : FVec Ideal S3x1024x36864 .f32) (b : Fin 3) (s : Fin 1024) :
    Host.reduceAdd v (constant S_ .f32 0x00000000#32) reducesTo_S3x1024x36864_S3x1024_d2 h_S_ (ix2 b s) = ∑ d : Fin 36864, v (ix3 b s d) := by
  refine (Ideal.hostReduceAdd_single reducesTo_S3x1024x36864_S3x1024_d2 red2 v _ (ix2 b s)).trans ?_
  refine (congrArg₂ (fun p q : EReal => p + q) Ideal.ofBits_zero_f32 (Finset.sum_congr rfl fun k _ => congrArg v (lift_at red2 b s k))).trans ?_
  exact zero_add _

/-- A maximum over the last axis, at a token. -/
theorem max_at (v : FVec Ideal S3x1024x36864 .f32) (b : Fin 3) (s : Fin 1024) :
    Host.reduce FloatOps.maximumf v (constant S_ .f32 0xFF800000#32) reducesTo_S3x1024x36864_S3x1024_d2 h_S_ (ix2 b s)
      = Finset.univ.sup fun d : Fin 36864 => v (ix3 b s d) := by
  refine (congrFun (hostReduce_maximumf_eq_multiReduction v 0xFF800000#32 reducesTo_S3x1024x36864_S3x1024_d2 h_S_ red2 (.inl rfl) rfl) _).trans ?_
  refine (Ideal.multiReduction_maximumf_single v _ red2 (.inl rfl) rfl _).trans ?_
  refine eq_of_forall_ge_iff fun z => ?_
  rw [Finset.fold_max_le, Finset.sup_le_iff]
  constructor
  · intro h' k _; exact (congrArg v (lift_at red2 b s k)).symm.trans_le (h'.2 k (Finset.mem_univ _))
  · intro h'; exact ⟨(le_of_eq Norm.c_negInf).trans bot_le, fun k _ => (congrArg v (lift_at red2 b s k)).trans_le (h' k (Finset.mem_univ _))⟩

/-! ## The arrays, read at an entry -/

/-- The mean square of a token. -/
theorem ms_at (b : Fin 3) (s : Fin 1024) : ms x r (ix3 b s 0) = Norm.msq (rw3 x r b s) := by
  unfold ms Norm.msq
  rw [divf_at, keep_at, sum_at, cst1_at, Norm.c_dim, Ideal.div_coe (by norm_num)]
  refine congrArg (fun q : EReal => q * ((1 / 36864 : ℝ) : EReal)) (Finset.sum_congr rfl fun d _ => ?_)
  rw [mulf_at, nf_at]

/-- The inverse root of a token. -/
theorem iv_at (b : Fin 3) (s : Fin 1024) : iv x r (ix3 b s 0) = Norm.inv (rw3 x r b s) := by
  unfold iv Norm.inv
  rw [rsqrt_at, addf_at, ms_at, cst1_at]

/-- The normalised value, at an entry. -/
theorem yy_at (b : Fin 3) (s : Fin 1024) (d : Fin 36864) : yy x r g (ix3 b s d) = Norm.yv (rw3 x r b s) (gOf g) d := by
  unfold yy Norm.yv
  rw [mulf_at, mulf_at, spread_at, iv_at, gain_at, nf_at]
  rfl

/-- The largest magnitude of a token. -/
theorem am_at (b : Fin 3) (s : Fin 1024) : am x r g (ix3 b s 0) = Norm.amax (rw3 x r b s) (gOf g) := by
  unfold am
  rw [keep_at, max_at]
  unfold Norm.amax
  refine Finset.sup_congr rfl fun d _ => ?_
  rw [absf_at, yy_at]

/-- The exponent of a token. -/
theorem ex_at (b : Fin 3) (s : Fin 1024) :
    ex x r g (ix3 b s 0) = Norm.refExp (Norm.amax (rw3 x r b s) (gOf g)) (Norm.zv (rw3 x r b s) (gOf g)) := by
  unfold ex Norm.zv Norm.refExp
  rw [sel_at, max2_at, addf_at, floor_at, divf_at, log_at, mulf_at, am_at, cst1_at, cst1_at, cst1_at, cst1_at, scal_at, scal_at, id, id, log_at]
  rfl

/-- The scale of a token. -/
theorem sc_at (b : Fin 3) (s : Fin 1024) :
    sc x r g (ix3 b s 0) = Norm.rscale (Norm.amax (rw3 x r b s) (gOf g)) (Norm.zv (rw3 x r b s) (gOf g)) := by
  unfold sc Norm.rscale
  rw [powf_at, ex_at, cst1_at]
/-- The inverse scale of a token. -/
theorem isc_at (b : Fin 3) (s : Fin 1024) :
    isc x r g (ix3 b s 0) = Norm.rinv (Norm.amax (rw3 x r b s) (gOf g)) (Norm.zv (rw3 x r b s) (gOf g)) := by
  unfold isc Norm.rinv
  rw [powf_at, negf_at, ex_at, cst1_at]

/-- The clipped value, at an entry. -/
theorem cv_at (b : Fin 3) (s : Fin 1024) (d : Fin 36864) :
    cv x r g (ix3 b s d) = Norm.code (Norm.yv (rw3 x r b s) (gOf g) d) (Norm.rinv (Norm.amax (rw3 x r b s) (gOf g)) (Norm.zv (rw3 x r b s) (gOf g))) := by
  unfold cv Norm.code
  rw [min2_at, max2_at, cst3_at, cst3_at, mulf_at, yy_at, spread_at, isc_at]

/-! ## The rows numbered through the batch -/

/-- The array as rows, at an entry. -/
theorem flat_at {φ : FTy} (v : FVec Ideal S3x1024x36864 φ) (n : Fin 3072) (d : Fin 36864) :
    shapeCast S3072x36864 v shapeCasts_S3x1024x36864_S3072x36864 (ix2 n d) = v (at3 n d) := by
  refine shapeCast_apply _ _ _ _ ?_
  rw [Shape.rowMajor_val_two, Shape.rowMajor_val_three]
  show (n.val / 1024 * 1024 + n.val % 1024) * 36864 + d.val = n.val * 36864 + d.val
  omega
/-- The numbers per token, 128 to a row, at an entry. -/
theorem flat1_at (v : FVec Ideal S3x1024x1 .f32) (y : S24x128.Idx) :
    shapeCast S24x128 v shapeCasts_S3x1024x1_S24x128 y
      = v (ix3 (⟨(Norm.scaleRow (y 0) (y 1)).val / 1024, by have := (Norm.scaleRow (y 0) (y 1)).isLt; omega⟩ : Fin 3)
          (⟨(Norm.scaleRow (y 0) (y 1)).val % 1024, by omega⟩ : Fin 1024) 0) := by
  refine shapeCast_apply _ _ _ _ ?_
  rw [Shape.rowMajor_val_two, Shape.rowMajor_val_three]
  show ((128 * (y 0).val + (y 1).val) / 1024 * 1024 + (128 * (y 0).val + (y 1).val) % 1024) * 1 + 0 = (y 0).val * 128 + (y 1).val
  omega

end Cert.ReferenceIdeal.Val

end
-- ==== Proof.ReferenceIdeal.Result.lean ====
/- The reference's three results as functions of its arguments: with a gain below 2^127 in magnitude the scale it takes by
   logarithm and power is the scale read off the exponent. -/
module

public import proofs.«01_k».proof.Proof.ReferenceIdeal.Rows

@[expose] public section

set_option maxRecDepth 16384

noncomputable section

namespace Cert.ReferenceIdeal.Val

open Cert.ReferenceIdeal Cert.ReferenceIdeal.Gen Idealize.ShloMosaic Idealize.ShloMosaic.TcCoe Idealize.SL.Sem
open Cert.Norm (rowOf gOf at3 resSum resCodes resScales scaleRow)

variable (m : (ℓ : Loc nD τ sig) → Buf (Elt Ideal) ℓ) (ρ : Dev nD → PrngReg)

/-- The gain stays below 2^127 in magnitude. -/
def InRange (g : Norm.SG.Idx → EReal) : Prop := ∀ d, Norm.mag (gOf g d) < (((2 : ℝ) ^ (127 : ℕ) : ℝ) : EReal)

/-- The new residual. -/
theorem V45_eq (c : Dev nD) : V m c main_v45 = resSum (aX m c) (aR m c) := by
  rw [V_v45]
  funext y
  obtain ⟨n, d, rfl⟩ : ∃ (n : Fin 3072) (d : Fin 36864), y = ix2 n d := ⟨y 0, y 1, eq_ix2 y⟩
  exact flat_at (nr (aX m c) (aR m c)) n d

/-- A row of the three-axis arrays is a row of the problem. -/
theorem rw3_row (c : Dev nD) (n : Fin 3072) :
    rw3 (aX m c) (aR m c) (⟨n.val / 1024, by have := n.isLt; omega⟩ : Fin 3) (⟨n.val % 1024, by omega⟩ : Fin 1024) = rowOf (aX m c) (aR m c) n := rfl

/-- The scales. -/
theorem V46_eq (c : Dev nD) (hg : InRange (aG m c)) : V m c main_v46 = resScales (aX m c) (aR m c) (aG m c) := by
  rw [V_v46]
  funext y
  rw [flat1_at, sc_at, rw3_row]
  exact (Norm.row_scales (rowOf (aX m c) (aR m c) (scaleRow (y 0) (y 1))) (gOf (aG m c)) hg).1.symm

/-- The clipped rows. -/
theorem V47_at (c : Dev nD) (hg : InRange (aG m c)) (n : Fin 3072) (d : Fin 36864) :
    (V m c main_v47 : FVec Ideal S3072x36864 .f32) (ix2 n d) = resCodes (aX m c) (aR m c) (aG m c) (ix2 n d) := by
  rw [V_v47, flat_at]
  refine (cv_at (aX m c) (aR m c) (aG m c) _ _ d).trans ?_
  rw [rw3_row, ← (Norm.row_scales (rowOf (aX m c) (aR m c) n) (gOf (aG m c)) hg).2]
  rfl

/-! ## The codes' array -/

/-- The one grid step. -/
def t0 : Fin cfg0.N := ⟨0, by decide⟩
/-- The one step's blocks are the first ones. -/
theorem idx_t0 : win0_0.index t0 = ![0, 0] ∧ win0_1.index t0 = ![0, 0] := by decide +kernel

/-- The input's block is the whole array. -/
theorem emb0 (y : S3072x36864.Idx) : ((cfg0.win 0).blk t0).view.emb y = y := by
  funext a; apply Fin.ext
  have h := idx_t0.1
  match a with
  | ⟨0, _⟩ => show win0_0.index t0 (0 : Fin 2) * 3072 + 1 * (y 0).val = (y 0).val; rw [h]; show 0 * 3072 + 1 * (y 0).val = _; omega
  | ⟨1, _⟩ => show win0_0.index t0 (1 : Fin 2) * 36864 + 1 * (y 1).val = (y 1).val; rw [h]; show 0 * 36864 + 1 * (y 1).val = _; omega
/-- The output's block is the whole array. -/
theorem emb1 (y : S3072x36864.Idx) : ((cfg0.win 1).blk t0).view.emb y = y := by
  funext a; apply Fin.ext
  have h := idx_t0.2
  match a with
  | ⟨0, _⟩ => show win0_1.index t0 (0 : Fin 2) * 3072 + 1 * (y 0).val = (y 0).val; rw [h]; show 0 * 3072 + 1 * (y 0).val = _; omega
  | ⟨1, _⟩ => show win0_1.index t0 (1 : Fin 2) * 36864 + 1 * (y 1).val = (y 1).val; rw [h]; show 0 * 36864 + 1 * (y 1).val = _; omega

/-- The body reads the clipped values. -/
theorem iblk_eq (c : Dev nD) : (iblk m c 0 t0 : FVec Ideal S3072x36864 .f32) = V m c main_v47 := by
  funext y
  show V m c main_v47 (((cfg0.win 0).blk t0).view.emb y) = _
  rw [emb0]

/-- The output's block read is the array read. -/
theorem read_at (A : Vec Ideal S3072x36864 .fp8e4m3) (y : S3072x36864.Idx) : ((cfg0.win 1).blk t0).view.read (Elt Ideal) A y = A y :=
  congrArg A (emb1 y)

/-- The body writes an entry from the same entry. -/
theorem same_idx (y : S3072x36864.Idx) : Value.ix1_0 y = y := by
  funext a
  match a with
  | ⟨0, _⟩ => exact Fin.ext rfl
  | ⟨1, _⟩ => exact Fin.ext rfl

/-- A load of the whole block is the block. -/
theorem ld_whole (X : Vec Ideal S3072x36864 .f32) : View.ld (Val := Elt Ideal) (e' := .f32) X r0_0 = X :=
  View.ld_unit_zero (by funext a; match a with | ⟨0, _⟩ => rfl | ⟨1, _⟩ => rfl) inb_S3072x36864_S3072x36864_0_0 X

/-- The body casts, and the cast is the identity on extended reals. -/
theorem out_at (X : Vec Ideal S3072x36864 .f32) (y : S3072x36864.Idx) : (out0_1 X : Vec Ideal S3072x36864 .fp8e4m3) y = X y := by
  unfold out0_1
  rw [ld_whole]
  exact (Value.canon1_eq X y).trans (congrArg X (same_idx y))

/-- The codes. -/
theorem codes_eq (c : Dev nD) (hg : InRange (aG m c)) : (dats m 0 c).arrAt 1 cfg0.N = resCodes (aX m c) (aR m c) (aG m c) := by
  funext y
  have e := congrFun (Value.blocks1 m c t0 (by decide +kernel)) y
  have e1 : ((cfg0.win 1).blk t0).view.read (Elt Ideal) ((dats m 0 c).arrAt 1 cfg0.N) y = (dats m 0 c).arrAt 1 cfg0.N y := by
    exact read_at ((dats m 0 c).arrAt 1 cfg0.N) y
  refine e1.symm.trans (e.trans ?_)
  have f := congrFun (Value.flushed1 m c t0) y
  have f1 : (cfg0.win 1).cut (grid0.coords t0) (out0_1 (iblk m c 0 t0)) y = out0_1 (iblk m c 0 t0) y := rfl
  refine f.trans (f1.trans ((out_at (iblk m c 0 t0) y).trans ?_))
  rw [iblk_eq]
  obtain ⟨n, d, rfl⟩ : ∃ (n : Fin 3072) (d : Fin 36864), y = ix2 n d := ⟨y 0, y 1, eq_ix2 y⟩
  exact V47_at m c hg n d

/-- The run, with its three results read. -/
theorem run (hg : ∀ c, InRange (aG m c)) : θ_run defs (onTc (τ := τ) (main (F := Ideal))) ⟨m, fun _ => 0, ρ⟩ fun r => ∀ c : Dev nD,
      r.2.mem ((c : Thread nD τ).loc main_v45) = resSum (aX m c) (aR m c)
      ∧ r.2.mem ((c : Thread nD τ).loc main_v48) = resCodes (aX m c) (aR m c) (aG m c)
      ∧ r.2.mem ((c : Thread nD τ).loc main_v46) = resScales (aX m c) (aR m c) (aG m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).2 main_v45 (Pipeline.mem_restRefs_of main_v45 (by decide) (by decide))).trans (V45_eq m c),
      (Value.post1 m r h c).trans (codes_eq m c (hg c)),
      ((h c).2 main_v46 (Pipeline.mem_restRefs_of main_v46 (by decide) (by decide))).trans (V46_eq m c (hg c)),
      Value.kept_main_arg0 m r h c,
      Value.kept_main_arg1 m r h c,
      Value.kept_main_arg2 m r h c⟩)
    (run_main m ρ)

end Cert.ReferenceIdeal.Val

end
-- ==== Proof.Equation.lean ====
/- The kernel's three results are the reference's, where the gain is below 2^127 in magnitude. -/
module

public import proofs.«01_k».proof.Defs
public import proofs.«01_k».proof.Proof.KernelIdeal.Arrays
public import proofs.«01_k».proof.Proof.ReferenceIdeal.Result
public import Idealize.ShloMosaic.Lib.ReduceAll

@[expose] public section

set_option maxRecDepth 16384

noncomputable section

namespace Cert.Proof

open Idealize.ShloMosaic Idealize.SL.Sem

/-- The side conditions of the precondition's operations. -/
theorem preFacts : Cert.Pre_gamma_in_range.Facts where
  bitsLt_bf16_f32 := by decide
  bcast_S_S36864 := by decide
  reducesTo_S36864_S_d0 := by decide
  h_S_ := by decide

instance : Subsingleton Cert.Pre_gamma_in_range.S_.Idx := ⟨fun a b => funext fun i => i.elim0⟩

attribute [local instance] preFacts in
/-- The precondition, read: every entry of the gain is below 2^127 in magnitude. -/
theorem inRange_of (x r : FVec Ideal Cert.Pre_gamma_in_range.S3x1024x36864 .bf16) (g : FVec Ideal Cert.Pre_gamma_in_range.S36864 .bf16)
    (h : Cert.Pre_gamma_in_range.fn (F := Ideal) x r g = fun _ => 1#1) : Cert.ReferenceIdeal.Val.InRange g := by
  intro d
  have h1 := congrFun h (fun a => a.elim0 : Cert.Pre_gamma_in_range.S_.Idx)
  have h2 := Host.reduce_andi_all _ _ _ _ _ h1 (ix1 d)
  have h3 : BitVec.ofBool (decide (Norm.mag (g (ix1 d)) < Ideal.ofBits .f32 0x7F000000#32)) = 1#1 := h2
  rw [Norm.c_2p127] at h3
  by_contra hn
  rw [show decide (Norm.mag (g (ix1 d)) < (((2 : ℝ) ^ (127 : ℕ) : ℝ) : EReal)) = false from decide_eq_false hn] at h3
  exact absurd h3 (by decide)

/-- The two programs end with the same three results. -/
theorem algebraic : Cert.algebraic_KernelIdeal_ReferenceIdeal_pre_gamma_in_range (hKernelIdeal := Cert.KernelIdeal.Gen.facts)
    (hReferenceIdeal := Cert.ReferenceIdeal.Gen.facts) (hPre_gamma_in_range := preFacts) := by
  intro m g m' g' hpre hargs
  have hx : ∀ c, Cert.ReferenceIdeal.Val.aX m' c = Cert.KernelIdeal.Val.aX m c := fun c => (hargs c).1
  have hr : ∀ c, Cert.ReferenceIdeal.Val.aR m' c = Cert.KernelIdeal.Val.aR m c := fun c => (hargs c).2.1
  have hg : ∀ c, Cert.ReferenceIdeal.Val.aG m' c = Cert.KernelIdeal.Val.aG m c := fun c => (hargs c).2.2
  have hin : ∀ c, Cert.ReferenceIdeal.Val.InRange (Cert.ReferenceIdeal.Val.aG m' c) := fun c => by
    rw [hg c]; exact inRange_of _ _ _ (hpre c)
  refine ⟨fun c => Norm.resSum (Cert.KernelIdeal.Val.aX m c) (Cert.KernelIdeal.Val.aR m c),
    fun c => Norm.resCodes (Cert.KernelIdeal.Val.aX m c) (Cert.KernelIdeal.Val.aR m c) (Cert.KernelIdeal.Val.aG m c),
    fun c => Norm.resScales (Cert.KernelIdeal.Val.aX m c) (Cert.KernelIdeal.Val.aR m c) (Cert.KernelIdeal.Val.aG m c), ?_, ?_⟩
  · refine (θ_run _ _ _).mono (fun r h c => ?_) (Cert.KernelIdeal.Value.run m g)
    obtain ⟨h3, h4, h5, ha⟩ := h c
    exact ⟨h3.trans (Cert.KernelIdeal.Val.G3_eq m c), h4.trans (Cert.KernelIdeal.Val.G4_eq m c), h5.trans (Cert.KernelIdeal.Val.G5_eq m c), ha⟩
  · refine (θ_run _ _ _).mono (fun r h c => ?_) (Cert.ReferenceIdeal.Val.run m' g' hin)
    obtain ⟨h3, h4, h5, ha⟩ := h c
    rw [hx c, hr c] at h3 h4 h5
    rw [hg c] at h4 h5
    exact ⟨h3, h4, h5, ha⟩

end Cert.Proof

end
-- ==== Proof.lean ====
/- The claim: the two kernels and the reference run and end quiet, the named constant is the exact one, and the kernel's
   three results are the reference's. -/
module

public import proofs.«01_k».proof.Defs
public import proofs.«01_k».proof.Proof.Kernel.Frame
public import proofs.«01_k».proof.Proof.Equation

@[expose] public section

noncomputable section

namespace Cert.Proof

open Idealize.ShloMosaic Idealize.SL.Sem

/-- Everything this certificate claims. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    IdealRules.named_const.statement Cert.KernelIdeal.κ "inv_d" .f32 0x37E38E39#32 ((1 / 36864 : ℝ) : EReal) rfl,
    algebraic⟩

end Cert.Proof

end
